-- ==== Defs.lean ====
def Pre_Kernel (m : (ℓ : Loc Cert.Kernel.nD Cert.Kernel.τ Cert.Kernel.sig) → Buf (Elt Bits) ℓ) : Prop :=
  True

def Pre_Kernel_one_greatest [hPre_one_greatest : Cert.Pre_one_greatest.Facts] (m : (ℓ : Loc Cert.Kernel.nD Cert.Kernel.τ Cert.Kernel.sig) → Buf (Elt Bits) ℓ) : Prop :=
  ∀ c : Dev Cert.Kernel.nD,
    (Cert.Pre_one_greatest.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_one_greatest : Cert.Pre_one_greatest.Facts] (m : (ℓ : Loc Cert.KernelIdeal.nD Cert.KernelIdeal.τ Cert.KernelIdeal.sig) → Buf (Elt Ideal) ℓ) : Prop :=
  ∀ c : Dev Cert.KernelIdeal.nD,
    (Cert.Pre_one_greatest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_greatest [hPre_one_greatest : Cert.Pre_one_greatest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_greatest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_Kernel_pre_one_greatest [hKernel : Cert.Kernel.Facts] [hPre_one_greatest : Cert.Pre_one_greatest.Facts] : Prop :=
  ∀ (m : (ℓ : Loc Cert.Kernel.nD Cert.Kernel.τ Cert.Kernel.sig) → Buf (Elt Bits) ℓ) (g : Dev Cert.Kernel.nD → PrngReg), Pre_Kernel_one_greatest m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_one_greatest : Cert.Pre_one_greatest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_one_greatest [hReferenceIdeal : Cert.ReferenceIdeal.Facts] [hPre_one_greatest : Cert.Pre_one_greatest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_greatest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_greatest : Cert.Pre_one_greatest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_one_greatest : Cert.Pre_one_greatest.Facts),
    quiescent_Kernel (hKernel := hKernel)
    ∧ quiescent_Kernel_pre_one_greatest (hKernel := hKernel) (hPre_one_greatest := hPre_one_greatest)
    ∧ quiescent_KernelIdeal (hKernelIdeal := hKernelIdeal) (hPre_one_greatest := hPre_one_greatest)
    ∧ quiescent_ReferenceIdeal (hReferenceIdeal := hReferenceIdeal)
    ∧ quiescent_ReferenceIdeal_pre_one_greatest (hReferenceIdeal := hReferenceIdeal) (hPre_one_greatest := hPre_one_greatest)
    ∧ preserves_Kernel_KernelIdeal
    ∧ algebraic_KernelIdeal_ReferenceIdeal (hKernelIdeal := hKernelIdeal) (hReferenceIdeal := hReferenceIdeal) (hPre_one_greatest := hPre_one_greatest)
-- ==== Pre_one_greatest.lean ====
abbrev S65536x64 : Shape := ⟨2, ![65536, 64]⟩
abbrev S512x32 : Shape := ⟨2, ![512, 32]⟩
abbrev S64x64 : Shape := ⟨2, ![64, 64]⟩
abbrev S64x32 : Shape := ⟨2, ![64, 32]⟩
abbrev S32x64 : Shape := ⟨2, ![32, 64]⟩
abbrev S64 : Shape := ⟨1, ![64]⟩
abbrev S64x512 : Shape := ⟨2, ![64, 512]⟩
abbrev S512 : Shape := ⟨1, ![512]⟩
abbrev S65536x32 : Shape := ⟨2, ![65536, 32]⟩
abbrev S1x64 : Shape := ⟨2, ![1, 64]⟩
abbrev S_ : Shape := ⟨0, ![]⟩
abbrev S65536x512 : Shape := ⟨2, ![65536, 512]⟩
abbrev S1x512 : Shape := ⟨2, ![1, 512]⟩
abbrev S65536 : Shape := ⟨1, ![65536]⟩
abbrev S65536x1 : Shape := ⟨2, ![65536, 1]⟩

class Facts : Prop where
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  natLt_1_32 : 1 < 32
  reducesTo_S65536_S_d0 : S65536.ReducesTo [0] S_
  dot_S65536x64_S64x64_S65536x64_1_0_0_1_n_n_wf : DotDims.WF S65536x64 S64x64 S65536x64 [1] [0] [0] [1] [] []
  dot_S65536x64_S64x32_S65536x32_1_0_0_1_n_n_wf : DotDims.WF S65536x64 S64x32 S65536x32 [1] [0] [0] [1] [] []
  dot_S65536x32_S32x64_S65536x64_1_0_0_1_n_n_wf : DotDims.WF S65536x32 S32x64 S65536x64 [1] [0] [0] [1] [] []
  dot_S65536x64_S64x512_S65536x512_1_0_0_1_n_n_wf : DotDims.WF S65536x64 S64x512 S65536x512 [1] [0] [0] [1] [] []

variable [Facts]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x64_S65536x64_1_0_0_1_n_n : DotDims S65536x32 S32x64 S65536x64 where
  lhsContracting := [1]
  rhsContracting := [0]
  lhsNonContracting := [0]
  rhsNonContracting := [1]
  lhsBatch := []
  rhsBatch := []
  wf := dot_S65536x32_S32x64_S65536x64_1_0_0_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def fn_where {F : FTy → Type} [FloatOps F] (arg0 : IVec S65536x64 1) (arg1 : FVec F S65536x64 .f32) (arg2 : FVec F S65536x64 .f32) : FVec F S65536x64 .f32 :=
  let v0 : FVec F S65536x64 .f32 := select arg0 arg1 arg2
  v0

def fn_where_0 {F : FTy → Type} [FloatOps F] (arg0 : IVec S65536x512 1) (arg1 : FVec F S65536x512 .f32) (arg2 : FVec F S65536x512 .f32) : FVec F S65536x512 .f32 :=
  let v0 : FVec F S65536x512 .f32 := select arg0 arg1 arg2
  v0

def fn_part5 {F : FTy → Type} [FloatOps F] (main_v87 : FVec F S65536x512 .f32) (main_v96 : IVec S_ 1) (main_cst_20 : FVec F S_ .f32) : IVec S_ 1 :=
  let main_v97 : FVec F S65536 .f32 := (fun x v => Host.reduce FloatOps.maximumf x v reducesTo_S65536x512_S65536_d1 h_S_) main_v87 main_cst_20
  let main_v98 : FVec F S65536x1 .f32 := broadcastInDim S65536x1 ![0] bcast_S65536_S65536x1_0 main_v97
  let main_v99 : FVec F S65536x512 .f32 := broadcastInDim S65536x512 ![0, 1] bcast_S65536x1_S65536x512_0_1 main_v98
  let main_v100 : IVec S65536x512 1 := cmpf .oeq main_v87 main_v99
  let main_v101 : IVec S65536x512 32 := (extui 32 · natLt_1_32) main_v100
  let main_c_21 : IVec S_ 32 := constantI S_ 32 0#32
  let main_v102 : IVec S65536 32 := (fun x v => Host.reduce IntOp.addi x v reducesTo_S65536x512_S65536_d1 h_S_) main_v101 main_c_21
  let main_c_22 : IVec S_ 32 := constantI S_ 32 1#32
  let main_v103 : IVec S65536 32 := broadcastInDim S65536 ![] bcast_S_S65536 main_c_22
  let main_v104 : IVec S65536 1 := cmpi .eq main_v102 main_v103
  let main_c_23 : IVec S_ 1 := constantI S_ 1 1#1
  let main_v105 : IVec S_ 1 := (fun x v => Host.reduce IntOp.andi x v reducesTo_S65536_S_d0 h_S_) main_v104 main_c_23
  let main_v106 : IVec S_ 1 := andi main_v96 main_v105
  main_v106

def fn_part4 {F : FTy → Type} [FloatOps F] (main_v43 : FVec F S65536x512 .f32) (main_v76 : FVec F S65536x512 .f32) (main_v77 : FVec F S65536 .f32) (main_v78 : FVec F S65536 .f32) : IVec S_ 1 :=
  let main_v79 : FVec F S65536 .f32 := maximumf main_v78 main_v77
  let main_v80 : FVec F S65536x1 .f32 := broadcastInDim S65536x1 ![0] bcast_S65536_S65536x1_0 main_v79
  let main_v81 : FVec F S65536x512 .f32 := broadcastInDim S65536x512 ![0, 1] bcast_S65536x1_S65536x512_0_1 main_v80
  let main_v82 : FVec F S65536x512 .f32 := subf main_v76 main_v81
  let main_v83 : FVec F S65536x512 .f32 := Host.exp main_v82
  let main_cst_16 : FVec F S_ .f32 := constant S_ .f32 0x00000000#32
  let main_v84 : FVec F S65536 .f32 := (fun x v => Host.reduceAdd x v reducesTo_S65536x512_S65536_d1 h_S_) main_v83 main_cst_16
  let main_v85 : FVec F S65536x1 .f32 := broadcastInDim S65536x1 ![0] bcast_S65536_S65536x1_0 main_v84
  let main_v86 : FVec F S65536x512 .f32 := broadcastInDim S65536x512 ![0, 1] bcast_S65536x1_S65536x512_0_1 main_v85
  let main_v87 : FVec F S65536x512 .f32 := Host.divf main_v83 main_v86
  let main_cst_17 : FVec F S_ .f32 := constant S_ .f32 0xFF800000#32
  let main_v88 : FVec F S65536 .f32 := (fun x v => Host.reduce FloatOps.maximumf x v reducesTo_S65536x512_S65536_d1 h_S_) main_v43 main_cst_17
  let main_v89 : FVec F S65536x1 .f32 := broadcastInDim S65536x1 ![0] bcast_S65536_S65536x1_0 main_v88
  let main_v90 : FVec F S65536x512 .f32 := broadcastInDim S65536x512 ![0, 1] bcast_S65536x1_S65536x512_0_1 main_v89
  let main_v91 : IVec S65536x512 1 := cmpf .oeq main_v43 main_v90
  let main_v92 : IVec S65536x512 32 := (extui 32 · natLt_1_32) main_v91
  let main_c : IVec S_ 32 := constantI S_ 32 0#32
  let main_v93 : IVec S65536 32 := (fun x v => Host.reduce IntOp.addi x v reducesTo_S65536x512_S65536_d1 h_S_) main_v92 main_c
  let main_c_18 : IVec S_ 32 := constantI S_ 32 1#32
  let main_v94 : IVec S65536 32 := broadcastInDim S65536 ![] bcast_S_S65536 main_c_18
  let main_v95 : IVec S65536 1 := cmpi .eq main_v93 main_v94
  let main_c_19 : IVec S_ 1 := constantI S_ 1 1#1
  let main_v96 : IVec S_ 1 := (fun x v => Host.reduce IntOp.andi x v reducesTo_S65536_S_d0 h_S_) main_v95 main_c_19
  let main_cst_20 : FVec F S_ .f32 := constant S_ .f32 0xFF800000#32
  fn_part5 (F := F) main_v87 main_v96 main_cst_20

def fn_part3 {F : FTy → Type} [FloatOps F] (main_arg19 : FVec F S64x512 .f32) (main_arg20 : FVec F S512 .f32) (main_v43 : FVec F S65536x512 .f32) (main_v59 : FVec F S65536x64 .f32) (main_v60 : FVec F S1x64 .f32) : IVec S_ 1 :=
  let main_v61 : FVec F S65536x64 .f32 := broadcastInDim S65536x64 ![0, 1] bcast_S1x64_S65536x64_0_1 main_v60
  let main_v62 : FVec F S65536x64 .f32 := addf main_v59 main_v61
  let main_cst_10 : FVec F S_ .f32 := constant S_ .f32 0x00000000#32
  let main_v63 : FVec F S65536x64 .f32 := broadcastInDim S65536x64 ![] bcast_S_S65536x64 main_cst_10
  let main_v64 : IVec S65536x64 1 := cmpf .oge main_v62 main_v63
  let main_cst_11 : FVec F S_ .f32 := constant S_ .f32 0x3DCCCCCD#32
  let main_v65 : FVec F S65536x64 .f32 := broadcastInDim S65536x64 ![] bcast_S_S65536x64 main_cst_11
  let main_v66 : FVec F S65536x64 .f32 := mulf main_v65 main_v62
  let main_v67 : FVec F S65536x64 .f32 := fn_where (F := F) main_v64 main_v62 main_v66
  let main_v68 : FVec F S65536x512 .f32 := (fun l r => Host.dotGeneral dot_S65536x64_S64x512_S65536x512_1_0_0_1_n_n none l r) main_v67 main_arg19
  let main_v69 : FVec F S1x512 .f32 := broadcastInDim S1x512 ![1] bcast_S512_S1x512_1 main_arg20
  let main_v70 : FVec F S65536x512 .f32 := broadcastInDim S65536x512 ![0, 1] bcast_S1x512_S65536x512_0_1 main_v69
  let main_v71 : FVec F S65536x512 .f32 := addf main_v68 main_v70
  let main_cst_12 : FVec F S_ .f32 := constant S_ .f32 0x00000000#32
  let main_v72 : FVec F S65536x512 .f32 := broadcastInDim S65536x512 ![] bcast_S_S65536x512 main_cst_12
  let main_v73 : IVec S65536x512 1 := cmpf .oge main_v71 main_v72
  let main_cst_13 : FVec F S_ .f32 := constant S_ .f32 0x3DCCCCCD#32
  let main_v74 : FVec F S65536x512 .f32 := broadcastInDim S65536x512 ![] bcast_S_S65536x512 main_cst_13
  let main_v75 : FVec F S65536x512 .f32 := mulf main_v74 main_v71
  let main_v76 : FVec F S65536x512 .f32 := fn_where_0 (F := F) main_v73 main_v71 main_v75
  let main_cst_14 : FVec F S_ .f32 := constant S_ .f32 0xFF800000#32
  let main_v77 : FVec F S65536 .f32 := (fun x v => Host.reduce FloatOps.maximumf x v reducesTo_S65536x512_S65536_d1 h_S_) main_v76 main_cst_14
  let main_cst_15 : FVec F S_ .f32 := constant S_ .f32 0xFF800000#32
  let main_v78 : FVec F S65536 .f32 := broadcastInDim S65536 ![] bcast_S_S65536 main_cst_15
  fn_part4 (F := F) main_v43 main_v76 main_v77 main_v78

def fn_part2 {F : FTy → Type} [FloatOps F] (main_arg1 : FVec F S65536x64 .f32) (main_arg12 : FVec F S64x64 .f32) (main_arg13 : FVec F S64x64 .f32) (main_arg14 : FVec F S64x32 .f32) (main_arg15 : FVec F S32x64 .f32) (main_arg16 : FVec F S64 .f32) (main_arg17 : FVec F S64x64 .f32) (main_arg18 : FVec F S64 .f32) (main_arg19 : FVec F S64x512 .f32) (main_arg20 : FVec F S512 .f32) (main_v39 : FVec F S65536x512 .f32) : IVec S_ 1 :=
  let main_cst_7 : FVec F S_ .f32 := constant S_ .f32 0x00000000#32
  let main_v40 : FVec F S65536 .f32 := (fun x v => Host.reduceAdd x v reducesTo_S65536x512_S65536_d1 h_S_) main_v39 main_cst_7
  let main_v41 : FVec F S65536x1 .f32 := broadcastInDim S65536x1 ![0] bcast_S65536_S65536x1_0 main_v40
  let main_v42 : FVec F S65536x512 .f32 := broadcastInDim S65536x512 ![0, 1] bcast_S65536x1_S65536x512_0_1 main_v41
  let main_v43 : FVec F S65536x512 .f32 := Host.divf main_v39 main_v42
  let main_v44 : FVec F S65536x64 .f32 := (fun l r => Host.dotGeneral dot_S65536x64_S64x64_S65536x64_1_0_0_1_n_n none l r) main_arg1 main_arg12
  let main_v45 : FVec F S65536x64 .f32 := Host.tanh main_v44
  let main_v46 : FVec F S65536x64 .f32 := (fun l r => Host.dotGeneral dot_S65536x64_S64x64_S65536x64_1_0_0_1_n_n none l r) main_v45 main_arg13
  let main_v47 : FVec F S65536x64 .f32 := Host.tanh main_v46
  let main_v48 : FVec F S65536x32 .f32 := (fun l r => Host.dotGeneral dot_S65536x64_S64x32_S65536x32_1_0_0_1_n_n none l r) main_v47 main_arg14
  let main_v49 : FVec F S65536x32 .f32 := Host.tanh main_v48
  let main_v50 : FVec F S65536x64 .f32 := (fun l r => Host.dotGeneral dot_S65536x32_S32x64_S65536x64_1_0_0_1_n_n none l r) main_v49 main_arg15
  let main_v51 : FVec F S1x64 .f32 := broadcastInDim S1x64 ![1] bcast_S64_S1x64_1 main_arg16
  let main_v52 : FVec F S65536x64 .f32 := broadcastInDim S65536x64 ![0, 1] bcast_S1x64_S65536x64_0_1 main_v51
  let main_v53 : FVec F S65536x64 .f32 := addf main_v50 main_v52
  let main_cst_8 : FVec F S_ .f32 := constant S_ .f32 0x00000000#32
  let main_v54 : FVec F S65536x64 .f32 := broadcastInDim S65536x64 ![] bcast_S_S65536x64 main_cst_8
  let main_v55 : IVec S65536x64 1 := cmpf .oge main_v53 main_v54
  let main_cst_9 : FVec F S_ .f32 := constant S_ .f32 0x3DCCCCCD#32
  let main_v56 : FVec F S65536x64 .f32 := broadcastInDim S65536x64 ![] bcast_S_S65536x64 main_cst_9
  let main_v57 : FVec F S65536x64 .f32 := mulf main_v56 main_v53
  let main_v58 : FVec F S65536x64 .f32 := fn_where (F := F) main_v55 main_v53 main_v57
  let main_v59 : FVec F S65536x64 .f32 := (fun l r => Host.dotGeneral dot_S65536x64_S64x64_S65536x64_1_0_0_1_n_n none l r) main_v58 main_arg17
  let main_v60 : FVec F S1x64 .f32 := broadcastInDim S1x64 ![1] bcast_S64_S1x64_1 main_arg18
  fn_part3 (F := F) main_arg19 main_arg20 main_v43 main_v59 main_v60

def fn_part1 {F : FTy → Type} [FloatOps F] (main_arg1 : FVec F S65536x64 .f32) (main_arg10 : FVec F S64x512 .f32) (main_arg11 : FVec F S512 .f32) (main_arg12 : FVec F S64x64 .f32) (main_arg13 : FVec F S64x64 .f32) (main_arg14 : FVec F S64x32 .f32) (main_arg15 : FVec F S32x64 .f32) (main_arg16 : FVec F S64 .f32) (main_arg17 : FVec F S64x64 .f32) (main_arg18 : FVec F S64 .f32) (main_arg19 : FVec F S64x512 .f32) (main_arg20 : FVec F S512 .f32) (main_v18 : FVec F S65536x64 .f32) (main_v20 : IVec S65536x64 1) : IVec S_ 1 :=
  let main_cst_2 : FVec F S_ .f32 := constant S_ .f32 0x3DCCCCCD#32
  let main_v21 : FVec F S65536x64 .f32 := broadcastInDim S65536x64 ![] bcast_S_S65536x64 main_cst_2
  let main_v22 : FVec F S65536x64 .f32 := mulf main_v21 main_v18
  let main_v23 : FVec F S65536x64 .f32 := fn_where (F := F) main_v20 main_v18 main_v22
  let main_v24 : FVec F S65536x512 .f32 := (fun l r => Host.dotGeneral dot_S65536x64_S64x512_S65536x512_1_0_0_1_n_n none l r) main_v23 main_arg10
  let main_v25 : FVec F S1x512 .f32 := broadcastInDim S1x512 ![1] bcast_S512_S1x512_1 main_arg11
  let main_v26 : FVec F S65536x512 .f32 := broadcastInDim S65536x512 ![0, 1] bcast_S1x512_S65536x512_0_1 main_v25
  let main_v27 : FVec F S65536x512 .f32 := addf main_v24 main_v26
  let main_cst_3 : FVec F S_ .f32 := constant S_ .f32 0x00000000#32
  let main_v28 : FVec F S65536x512 .f32 := broadcastInDim S65536x512 ![] bcast_S_S65536x512 main_cst_3
  let main_v29 : IVec S65536x512 1 := cmpf .oge main_v27 main_v28
  let main_cst_4 : FVec F S_ .f32 := constant S_ .f32 0x3DCCCCCD#32
  let main_v30 : FVec F S65536x512 .f32 := broadcastInDim S65536x512 ![] bcast_S_S65536x512 main_cst_4
  let main_v31 : FVec F S65536x512 .f32 := mulf main_v30 main_v27
  let main_v32 : FVec F S65536x512 .f32 := fn_where_0 (F := F) main_v29 main_v27 main_v31
  let main_cst_5 : FVec F S_ .f32 := constant S_ .f32 0xFF800000#32
  let main_v33 : FVec F S65536 .f32 := (fun x v => Host.reduce FloatOps.maximumf x v reducesTo_S65536x512_S65536_d1 h_S_) main_v32 main_cst_5
  let main_cst_6 : FVec F S_ .f32 := constant S_ .f32 0xFF800000#32
  let main_v34 : FVec F S65536 .f32 := broadcastInDim S65536 ![] bcast_S_S65536 main_cst_6
  let main_v35 : FVec F S65536 .f32 := maximumf main_v34 main_v33
  let main_v36 : FVec F S65536x1 .f32 := broadcastInDim S65536x1 ![0] bcast_S65536_S65536x1_0 main_v35
  let main_v37 : FVec F S65536x512 .f32 := broadcastInDim S65536x512 ![0, 1] bcast_S65536x1_S65536x512_0_1 main_v36
  let main_v38 : FVec F S65536x512 .f32 := subf main_v32 main_v37
  let main_v39 : FVec F S65536x512 .f32 := Host.exp main_v38
  fn_part2 (F := F) main_arg1 main_arg12 main_arg13 main_arg14 main_arg15 main_arg16 main_arg17 main_arg18 main_arg19 main_arg20 main_v39

def fn {F : FTy → Type} [FloatOps F] (main_arg0 : FVec F S65536x64 .f32) (main_arg1 : FVec F S65536x64 .f32) (main_arg2 : FVec F S512x32 .f32) (main_arg3 : FVec F S64x64 .f32) (main_arg4 : FVec F S64x64 .f32) (main_arg5 : FVec F S64x32 .f32) (main_arg6 : FVec F S32x64 .f32) (main_arg7 : FVec F S64 .f32) (main_arg8 : FVec F S64x64 .f32) (main_arg9 : FVec F S64 .f32) (main_arg10 : FVec F S64x512 .f32) (main_arg11 : FVec F S512 .f32) (main_arg12 : FVec F S64x64 .f32) (main_arg13 : FVec F S64x64 .f32) (main_arg14 : FVec F S64x32 .f32) (main_arg15 : FVec F S32x64 .f32) (main_arg16 : FVec F S64 .f32) (main_arg17 : FVec F S64x64 .f32) (main_arg18 : FVec F S64 .f32) (main_arg19 : FVec F S64x512 .f32) (main_arg20 : FVec F S512 .f32) : IVec S_ 1 :=
  let main_v0 : FVec F S65536x64 .f32 := (fun l r => Host.dotGeneral dot_S65536x64_S64x64_S65536x64_1_0_0_1_n_n none l r) main_arg0 main_arg3
  let main_v1 : FVec F S65536x64 .f32 := Host.tanh main_v0
  let main_v2 : FVec F S65536x64 .f32 := (fun l r => Host.dotGeneral dot_S65536x64_S64x64_S65536x64_1_0_0_1_n_n none l r) main_v1 main_arg4
  let main_v3 : FVec F S65536x64 .f32 := Host.tanh main_v2
  let main_v4 : FVec F S65536x32 .f32 := (fun l r => Host.dotGeneral dot_S65536x64_S64x32_S65536x32_1_0_0_1_n_n none l r) main_v3 main_arg5
  let main_v5 : FVec F S65536x32 .f32 := Host.tanh main_v4
  let main_v6 : FVec F S65536x64 .f32 := (fun l r => Host.dotGeneral dot_S65536x32_S32x64_S65536x64_1_0_0_1_n_n none l r) main_v5 main_arg6
  let main_v7 : FVec F S1x64 .f32 := broadcastInDim S1x64 ![1] bcast_S64_S1x64_1 main_arg7
  let main_v8 : FVec F S65536x64 .f32 := broadcastInDim S65536x64 ![0, 1] bcast_S1x64_S65536x64_0_1 main_v7
  let main_v9 : FVec F S65536x64 .f32 := addf main_v6 main_v8
  let main_cst : FVec F S_ .f32 := constant S_ .f32 0x00000000#32
  let main_v10 : FVec F S65536x64 .f32 := broadcastInDim S65536x64 ![] bcast_S_S65536x64 main_cst
  let main_v11 : IVec S65536x64 1 := cmpf .oge main_v9 main_v10
  let main_cst_0 : FVec F S_ .f32 := constant S_ .f32 0x3DCCCCCD#32
  let main_v12 : FVec F S65536x64 .f32 := broadcastInDim S65536x64 ![] bcast_S_S65536x64 main_cst_0
  let main_v13 : FVec F S65536x64 .f32 := mulf main_v12 main_v9
  let main_v14 : FVec F S65536x64 .f32 := fn_where (F := F) main_v11 main_v9 main_v13
  let main_v15 : FVec F S65536x64 .f32 := (fun l r => Host.dotGeneral dot_S65536x64_S64x64_S65536x64_1_0_0_1_n_n none l r) main_v14 main_arg8
  let main_v16 : FVec F S1x64 .f32 := broadcastInDim S1x64 ![1] bcast_S64_S1x64_1 main_arg9
  let main_v17 : FVec F S65536x64 .f32 := broadcastInDim S65536x64 ![0, 1] bcast_S1x64_S65536x64_0_1 main_v16
  let main_v18 : FVec F S65536x64 .f32 := addf main_v15 main_v17
  let main_cst_1 : FVec F S_ .f32 := constant S_ .f32 0x00000000#32
  let main_v19 : FVec F S65536x64 .f32 := broadcastInDim S65536x64 ![] bcast_S_S65536x64 main_cst_1
  let main_v20 : IVec S65536x64 1 := cmpf .oge main_v18 main_v19
  fn_part1 (F := F) main_arg1 main_arg10 main_arg11 main_arg12 main_arg13 main_arg14 main_arg15 main_arg16 main_arg17 main_arg18 main_arg19 main_arg20 main_v18 main_v20
-- ==== Kernel.lean ====
abbrev S65536x64 : Shape := ⟨2, ![65536, 64]⟩
abbrev S512x32 : Shape := ⟨2, ![512, 32]⟩
abbrev S64x64 : Shape := ⟨2, ![64, 64]⟩
abbrev S64x32 : Shape := ⟨2, ![64, 32]⟩
abbrev S32x64 : Shape := ⟨2, ![32, 64]⟩
abbrev S64 : Shape := ⟨1, ![64]⟩
abbrev S64x512 : Shape := ⟨2, ![64, 512]⟩
abbrev S512 : Shape := ⟨1, ![512]⟩
abbrev S_ : Shape := ⟨0, ![]⟩
abbrev S32x72 : Shape := ⟨2, ![32, 72]⟩
abbrev S1 : Shape := ⟨1, ![1]⟩
abbrev S72x1 : Shape := ⟨2, ![72, 1]⟩
abbrev S2 : Shape := ⟨1, ![2]⟩
abbrev S72x72 : Shape := ⟨2, ![72, 72]⟩
abbrev S72x512 : Shape := ⟨2, ![72, 512]⟩
abbrev S2x65536x32 : Shape := ⟨3, ![2, 65536, 32]⟩
abbrev S2x32x1x2048 : Shape := ⟨4, ![2, 32, 1, 2048]⟩
abbrev S2048x64 : Shape := ⟨2, ![2048, 64]⟩
abbrev S2x2048x32 : Shape := ⟨3, ![2, 2048, 32]⟩
abbrev S2x1x1x2048 : Shape := ⟨4, ![2, 1, 1, 2048]⟩
abbrev S2048x32 : Shape := ⟨2, ![2048, 32]⟩
abbrev S1x2048x32 : Shape := ⟨3, ![1, 2048, 32]⟩
abbrev S32x2048 : Shape := ⟨2, ![32, 2048]⟩
abbrev S72x2048 : Shape := ⟨2, ![72, 2048]⟩
abbrev S512x2048 : Shape := ⟨2, ![512, 2048]⟩
abbrev S2048 : Shape := ⟨1, ![2048]⟩
abbrev S1x1x1x2048 : Shape := ⟨4, ![1, 1, 1, 2048]⟩

abbrev nBuf : Space → Nat
  | .hbm => 122
  | .vmem => 24
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S512x32, .f32⟩
  | .hbm, ⟨3, _⟩ => ⟨S64x64, .f32⟩
  | .hbm, ⟨4, _⟩ => ⟨S64x64, .f32⟩
  | .hbm, ⟨5, _⟩ => ⟨S64x32, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x512, .f32⟩
  | .hbm, ⟨11, _⟩ => ⟨S512, .f32⟩
  | .hbm, ⟨12, _⟩ => ⟨S64x64, .f32⟩
  | .hbm, ⟨13, _⟩ => ⟨S64x64, .f32⟩
  | .hbm, ⟨14, _⟩ => ⟨S64x32, .f32⟩
  | .hbm, ⟨15, _⟩ => ⟨S32x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64x512, .f32⟩
  | .hbm, ⟨20, _⟩ => ⟨S512, .f32⟩
  | .hbm, ⟨21, _⟩ => ⟨S_, .f32⟩
  | .hbm, ⟨22, _⟩ => ⟨S32x72, .f32⟩
  | .hbm, ⟨23, _⟩ => ⟨S_, .i32⟩
  | .hbm, ⟨24, _⟩ => ⟨S1, .i32⟩
  | .hbm, ⟨25, _⟩ => ⟨S32x72, .f32⟩
  | .hbm, ⟨26, _⟩ => ⟨S_, .f32⟩
  | .hbm, ⟨27, _⟩ => ⟨S72x1, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S72x1, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S_, .f32⟩
  | .hbm, ⟨40, _⟩ => ⟨S72x1, .f32⟩
  | .hbm, ⟨41, _⟩ => ⟨S_, .f32⟩
  | .hbm, ⟨42, _⟩ => ⟨S72x72, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S72x72, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S72x72, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S_, .f32⟩
  | .hbm, ⟨61, _⟩ => ⟨S72x72, .f32⟩
  | .hbm, ⟨62, _⟩ => ⟨S_, .f32⟩
  | .hbm, ⟨63, _⟩ => ⟨S72x512, .f32⟩
  | .hbm, ⟨64, _⟩ => ⟨S_, .i32⟩
  | .hbm, ⟨65, _⟩ => ⟨S1, .i32⟩
  | .hbm, ⟨66, _⟩ => ⟨S72x512, .f32⟩
  | .hbm, ⟨67, _⟩ => ⟨S_, .i32⟩
  | .hbm, ⟨68, _⟩ => ⟨S1, .i32⟩
  | .hbm, ⟨69, _⟩ => ⟨S72x512, .f32⟩
  | .hbm, ⟨70, _⟩ => ⟨S_, .f32⟩
  | .hbm, ⟨71, _⟩ => ⟨S32x72, .f32⟩
  | .hbm, ⟨72, _⟩ => ⟨S_, .i32⟩
  | .hbm, ⟨73, _⟩ => ⟨S1, .i32⟩
  | .hbm, ⟨74, _⟩ => ⟨S32x72, .f32⟩
  | .hbm, ⟨75, _⟩ => ⟨S_, .f32⟩
  | .hbm, ⟨76, _⟩ => ⟨S72x1, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S72x1, .f32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S2, .i32⟩
  | .hbm, ⟨88, _⟩ => ⟨S_, .f32⟩
  | .hbm, ⟨89, _⟩ => ⟨S72x1, .f32⟩
  | .hbm, ⟨90, _⟩ => ⟨S_, .f32⟩
  | .hbm, ⟨91, _⟩ => ⟨S72x72, .f32⟩
  | .hbm, ⟨92, _⟩ => ⟨S_, .i32⟩
  | .hbm, ⟨93, _⟩ => ⟨S1, .i32⟩
  | .hbm, ⟨94, _⟩ => ⟨S_, .i32⟩
  | .hbm, ⟨95, _⟩ => ⟨S1, .i32⟩
  | .hbm, ⟨96, _⟩ => ⟨S2, .i32⟩
  | .hbm, ⟨97, _⟩ => ⟨S72x72, .f32⟩
  | .hbm, ⟨98, _⟩ => ⟨S_, .i32⟩
  | .hbm, ⟨99, _⟩ => ⟨S1, .i32⟩
  | .hbm, ⟨100, _⟩ => ⟨S_, .i32⟩
  | .hbm, ⟨101, _⟩ => ⟨S1, .i32⟩
  | .hbm, ⟨102, _⟩ => ⟨S2, .i32⟩
  | .hbm, ⟨103, _⟩ => ⟨S72x72, .f32⟩
  | .hbm, ⟨104, _⟩ => ⟨S_, .i32⟩
  | .hbm, ⟨105, _⟩ => ⟨S1, .i32⟩
  | .hbm, ⟨106, _⟩ => ⟨S_, .i32⟩
  | .hbm, ⟨107, _⟩ => ⟨S1, .i32⟩
  | .hbm, ⟨108, _⟩ => ⟨S2, .i32⟩
  | .hbm, ⟨109, _⟩ => ⟨S_, .f32⟩
  | .hbm, ⟨110, _⟩ => ⟨S72x72, .f32⟩
  | .hbm, ⟨111, _⟩ => ⟨S_, .f32⟩
  | .hbm, ⟨112, _⟩ => ⟨S72x512, .f32⟩
  | .hbm, ⟨113, _⟩ => ⟨S_, .i32⟩
  | .hbm, ⟨114, _⟩ => ⟨S1, .i32⟩
  | .hbm, ⟨115, _⟩ => ⟨S72x512, .f32⟩
  | .hbm, ⟨116, _⟩ => ⟨S_, .i32⟩
  | .hbm, ⟨117, _⟩ => ⟨S1, .i32⟩
  | .hbm, ⟨118, _⟩ => ⟨S72x512, .f32⟩
  | .hbm, ⟨119, _⟩ => ⟨S512x32, .f32⟩
  | .hbm, ⟨120, _⟩ => ⟨S2x65536x32, .f32⟩
  | .hbm, ⟨121, _⟩ => ⟨S2x32x1x2048, .i32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S512x32, .f32⟩
  | .local _ .vmem, ⟨5, _⟩ => ⟨S64x64, .f32⟩
  | .local _ .vmem, ⟨6, _⟩ => ⟨S64x64, .f32⟩
  | .local _ .vmem, ⟨7, _⟩ => ⟨S64x32, .f32⟩
  | .local _ .vmem, ⟨8, _⟩ => ⟨S32x72, .f32⟩
  | .local _ .vmem, ⟨9, _⟩ => ⟨S72x1, .f32⟩
  | .local _ .vmem, ⟨10, _⟩ => ⟨S72x72, .f32⟩
  | .local _ .vmem, ⟨11, _⟩ => ⟨S72x512, .f32⟩
  | .local _ .vmem, ⟨12, _⟩ => ⟨S64x64, .f32⟩
  | .local _ .vmem, ⟨13, _⟩ => ⟨S64x64, .f32⟩
  | .local _ .vmem, ⟨14, _⟩ => ⟨S64x32, .f32⟩
  | .local _ .vmem, ⟨15, _⟩ => ⟨S32x72, .f32⟩
  | .local _ .vmem, ⟨16, _⟩ => ⟨S72x1, .f32⟩
  | .local _ .vmem, ⟨17, _⟩ => ⟨S72x72, .f32⟩
  | .local _ .vmem, ⟨18, _⟩ => ⟨S72x512, .f32⟩
  | .local _ .vmem, ⟨19, _⟩ => ⟨S512x32, .f32⟩
  | .local _ .vmem, ⟨20, _⟩ => ⟨S2x2048x32, .f32⟩
  | .local _ .vmem, ⟨21, _⟩ => ⟨S2x2048x32, .f32⟩
  | .local _ .vmem, ⟨22, _⟩ => ⟨S2x1x1x2048, .i32⟩
  | .local _ .vmem, ⟨23, _⟩ => ⟨S2x1x1x2048, .i32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_3 : Ref sig .tc := ⟨.hbm, 34, rfl⟩
abbrev main_v8 : Ref sig .tc := ⟨.hbm, 35, rfl⟩
abbrev main_c_4 : Ref sig .tc := ⟨.hbm, 36, rfl⟩
abbrev main_v9 : Ref sig .tc := ⟨.hbm, 37, rfl⟩
abbrev main_v10 : Ref sig .tc := ⟨.hbm, 38, rfl⟩
abbrev main_cst_5 : Ref sig .tc := ⟨.hbm, 39, rfl⟩
abbrev main_v11 : Ref sig .tc := ⟨.hbm, 40, rfl⟩
abbrev main_cst_6 : Ref sig .tc := ⟨.hbm, 41, rfl⟩
abbrev main_v12 : Ref sig .tc := ⟨.hbm, 42, rfl⟩
abbrev main_c_7 : Ref sig .tc := ⟨.hbm, 43, rfl⟩
abbrev main_v13 : Ref sig .tc := ⟨.hbm, 44, rfl⟩
abbrev main_c_8 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_9 : Ref sig .tc := ⟨.hbm, 49, rfl⟩
abbrev main_v17 : Ref sig .tc := ⟨.hbm, 50, rfl⟩
abbrev main_c_10 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_11 : Ref sig .tc := ⟨.hbm, 55, rfl⟩
abbrev main_v21 : Ref sig .tc := ⟨.hbm, 56, rfl⟩
abbrev main_c_12 : Ref sig .tc := ⟨.hbm, 57, rfl⟩
abbrev main_v22 : Ref sig .tc := ⟨.hbm, 58, rfl⟩
abbrev main_v23 : Ref sig .tc := ⟨.hbm, 59, rfl⟩
abbrev main_cst_13 : Ref sig .tc := ⟨.hbm, 60, rfl⟩
abbrev main_v24 : Ref sig .tc := ⟨.hbm, 61, rfl⟩
abbrev main_cst_14 : Ref sig .tc := ⟨.hbm, 62, rfl⟩
abbrev main_v25 : Ref sig .tc := ⟨.hbm, 63, rfl⟩
abbrev main_c_15 : Ref sig .tc := ⟨.hbm, 64, rfl⟩
abbrev main_v26 : Ref sig .tc := ⟨.hbm, 65, rfl⟩
abbrev main_v27 : Ref sig .tc := ⟨.hbm, 66, rfl⟩
abbrev main_c_16 : Ref sig .tc := ⟨.hbm, 67, rfl⟩
abbrev main_v28 : Ref sig .tc := ⟨.hbm, 68, rfl⟩
abbrev main_v29 : Ref sig .tc := ⟨.hbm, 69, rfl⟩
abbrev main_cst_17 : Ref sig .tc := ⟨.hbm, 70, rfl⟩
abbrev main_v30 : Ref sig .tc := ⟨.hbm, 71, rfl⟩
abbrev main_c_18 : Ref sig .tc := ⟨.hbm, 72, rfl⟩
abbrev main_v31 : Ref sig .tc := ⟨.hbm, 73, rfl⟩
abbrev main_v32 : Ref sig .tc := ⟨.hbm, 74, rfl⟩
abbrev main_cst_19 : Ref sig .tc := ⟨.hbm, 75, rfl⟩
abbrev main_v33 : Ref sig .tc := ⟨.hbm, 76, rfl⟩
abbrev main_c_20 : Ref sig .tc := ⟨.hbm, 77, rfl⟩
abbrev main_v34 : Ref sig .tc := ⟨.hbm, 78, rfl⟩
abbrev main_c_21 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_22 : Ref sig .tc := ⟨.hbm, 83, rfl⟩
abbrev main_v38 : Ref sig .tc := ⟨.hbm, 84, rfl⟩
abbrev main_c_23 : Ref sig .tc := ⟨.hbm, 85, rfl⟩
abbrev main_v39 : Ref sig .tc := ⟨.hbm, 86, rfl⟩
abbrev main_v40 : Ref sig .tc := ⟨.hbm, 87, rfl⟩
abbrev main_cst_24 : Ref sig .tc := ⟨.hbm, 88, rfl⟩
abbrev main_v41 : Ref sig .tc := ⟨.hbm, 89, rfl⟩
abbrev main_cst_25 : Ref sig .tc := ⟨.hbm, 90, rfl⟩
abbrev main_v42 : Ref sig .tc := ⟨.hbm, 91, rfl⟩
abbrev main_c_26 : Ref sig .tc := ⟨.hbm, 92, rfl⟩
abbrev main_v43 : Ref sig .tc := ⟨.hbm, 93, rfl⟩
abbrev main_c_27 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_28 : Ref sig .tc := ⟨.hbm, 98, rfl⟩
abbrev main_v47 : Ref sig .tc := ⟨.hbm, 99, rfl⟩
abbrev main_c_29 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_c_30 : Ref sig .tc := ⟨.hbm, 104, rfl⟩
abbrev main_v51 : Ref sig .tc := ⟨.hbm, 105, rfl⟩
abbrev main_c_31 : Ref sig .tc := ⟨.hbm, 106, rfl⟩
abbrev main_v52 : Ref sig .tc := ⟨.hbm, 107, rfl⟩
abbrev main_v53 : Ref sig .tc := ⟨.hbm, 108, rfl⟩
abbrev main_cst_32 : Ref sig .tc := ⟨.hbm, 109, rfl⟩
abbrev main_v54 : Ref sig .tc := ⟨.hbm, 110, rfl⟩
abbrev main_cst_33 : Ref sig .tc := ⟨.hbm, 111, rfl⟩
abbrev main_v55 : Ref sig .tc := ⟨.hbm, 112, rfl⟩
abbrev main_c_34 : Ref sig .tc := ⟨.hbm, 113, rfl⟩
abbrev main_v56 : Ref sig .tc := ⟨.hbm, 114, rfl⟩
abbrev main_v57 : Ref sig .tc := ⟨.hbm, 115, rfl⟩
abbrev main_c_35 : Ref sig .tc := ⟨.hbm, 116, rfl⟩
abbrev main_v58 : Ref sig .tc := ⟨.hbm, 117, rfl⟩
abbrev main_v59 : Ref sig .tc := ⟨.hbm, 118, rfl⟩
abbrev main_v60_0 : Ref sig .tc := ⟨.hbm, 119, rfl⟩
abbrev main_v60_1 : Ref sig .tc := ⟨.hbm, 120, rfl⟩
abbrev main_v60_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S72x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S72x72 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S72x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x72 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S72x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S72x72 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S72x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2x2048x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x1x1x2048 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S65536x64 : Shape := ⟨2, ![65536, 64]⟩
abbrev S512x32 : Shape := ⟨2, ![512, 32]⟩
abbrev S64x64 : Shape := ⟨2, ![64, 64]⟩
abbrev S64x32 : Shape := ⟨2, ![64, 32]⟩
abbrev S32x64 : Shape := ⟨2, ![32, 64]⟩
abbrev S64 : Shape := ⟨1, ![64]⟩
abbrev S64x512 : Shape := ⟨2, ![64, 512]⟩
abbrev S512 : Shape := ⟨1, ![512]⟩
abbrev S65536x32 : Shape := ⟨2, ![65536, 32]⟩
abbrev S1x64 : Shape := ⟨2, ![1, 64]⟩
abbrev S_ : Shape := ⟨0, ![]⟩
abbrev S65536x512 : Shape := ⟨2, ![65536, 512]⟩
abbrev S1x512 : Shape := ⟨2, ![1, 512]⟩
abbrev S65536 : Shape := ⟨1, ![65536]⟩
abbrev S65536x1 : Shape := ⟨2, ![65536, 1]⟩
abbrev S131072x32 : Shape := ⟨2, ![131072, 32]⟩
abbrev S131072 : Shape := ⟨1, ![131072]⟩
abbrev S2x65536x32 : Shape := ⟨3, ![2, 65536, 32]⟩
abbrev S2x32x1x2048 : Shape := ⟨4, ![2, 32, 1, 2048]⟩

abbrev nBuf : Space → Nat
  | .hbm => 142
  | .vmem => 0
  | .smem => 0
  | _ => 0

abbrev hbmTy0_0 (i : Nat) : BufTy := match i % 128 with
  | 0 => ⟨S65536x64, .f32⟩
  | 1 => ⟨S65536x64, .f32⟩
  | 2 => ⟨S512x32, .f32⟩
  | 3 => ⟨S64x64, .f32⟩
  | 4 => ⟨S64x64, .f32⟩
  | 5 => ⟨S64x32, .f32⟩
  | 6 => ⟨S32x64, .f32⟩
  | 7 => ⟨S64, .f32⟩
  | 8 => ⟨S64x64, .f32⟩
  | 9 => ⟨S64, .f32⟩
  | 10 => ⟨S64x512, .f32⟩
  | 11 => ⟨S512, .f32⟩
  | 12 => ⟨S64x64, .f32⟩
  | 13 => ⟨S64x64, .f32⟩
  | 14 => ⟨S64x32, .f32⟩
  | 15 => ⟨S32x64, .f32⟩
  | 16 => ⟨S64, .f32⟩
  | 17 => ⟨S64x64, .f32⟩
  | 18 => ⟨S64, .f32⟩
  | 19 => ⟨S64x512, .f32⟩
  | 20 => ⟨S512, .f32⟩
  | 21 => ⟨S512x32, .f32⟩
  | 22 => ⟨S65536x64, .f32⟩
  | 23 => ⟨S65536x64, .f32⟩
  | 24 => ⟨S65536x64, .f32⟩
  | 25 => ⟨S65536x64, .f32⟩
  | 26 => ⟨S65536x32, .f32⟩
  | 27 => ⟨S65536x32, .f32⟩
  | 28 => ⟨S65536x64, .f32⟩
  | 29 => ⟨S1x64, .f32⟩
  | 30 => ⟨S65536x64, .f32⟩
  | 31 => ⟨S65536x64, .f32⟩
  | 32 => ⟨S_, .f32⟩
  | 33 => ⟨S65536x64, .f32⟩
  | 34 => ⟨S65536x64, .i1⟩
  | 35 => ⟨S_, .f32⟩
  | 36 => ⟨S65536x64, .f32⟩
  | 37 => ⟨S65536x64, .f32⟩
  | 38 => ⟨S65536x64, .f32⟩
  | 39 => ⟨S65536x64, .f32⟩
  | 40 => ⟨S1x64, .f32⟩
  | 41 => ⟨S65536x64, .f32⟩
  | 42 => ⟨S65536x64, .f32⟩
  | 43 => ⟨S_, .f32⟩
  | 44 => ⟨S65536x64, .f32⟩
  | 45 => ⟨S65536x64, .i1⟩
  | 46 => ⟨S_, .f32⟩
  | 47 => ⟨S65536x64, .f32⟩
  | 48 => ⟨S65536x64, .f32⟩
  | 49 => ⟨S65536x64, .f32⟩
  | 50 => ⟨S65536x512, .f32⟩
  | 51 => ⟨S1x512, .f32⟩
  | 52 => ⟨S65536x512, .f32⟩
  | 53 => ⟨S65536x512, .f32⟩
  | 54 => ⟨S_, .f32⟩
  | 55 => ⟨S65536x512, .f32⟩
  | 56 => ⟨S65536x512, .i1⟩
  | 57 => ⟨S_, .f32⟩
  | 58 => ⟨S65536x512, .f32⟩
  | 59 => ⟨S65536x512, .f32⟩
  | 60 => ⟨S65536x512, .f32⟩
  | 61 => ⟨S_, .f32⟩
  | 62 => ⟨S65536, .f32⟩
  | 63 => ⟨S_, .f32⟩
  | 64 => ⟨S65536, .f32⟩
  | 65 => ⟨S65536, .f32⟩
  | 66 => ⟨S65536x1, .f32⟩
  | 67 => ⟨S65536x512, .f32⟩
  | 68 => ⟨S65536x512, .f32⟩
  | 69 => ⟨S65536x512, .f32⟩
  | 70 => ⟨S_, .f32⟩
  | 71 => ⟨S65536, .f32⟩
  | 72 => ⟨S65536x1, .f32⟩
  | 73 => ⟨S65536x512, .f32⟩
  | 74 => ⟨S65536x512, .f32⟩
  | 75 => ⟨S65536x64, .f32⟩
  | 76 => ⟨S65536x64, .f32⟩
  | 77 => ⟨S65536x64, .f32⟩
  | 78 => ⟨S65536x64, .f32⟩
  | 79 => ⟨S65536x32, .f32⟩
  | 80 => ⟨S65536x32, .f32⟩
  | 81 => ⟨S65536x64, .f32⟩
  | 82 => ⟨S1x64, .f32⟩
  | 83 => ⟨S65536x64, .f32⟩
  | 84 => ⟨S65536x64, .f32⟩
  | 85 => ⟨S_, .f32⟩
  | 86 => ⟨S65536x64, .f32⟩
  | 87 => ⟨S65536x64, .i1⟩
  | 88 => ⟨S_, .f32⟩
  | 89 => ⟨S65536x64, .f32⟩
  | 90 => ⟨S65536x64, .f32⟩
  | 91 => ⟨S65536x64, .f32⟩
  | 92 => ⟨S65536x64, .f32⟩
  | 93 => ⟨S1x64, .f32⟩
  | 94 => ⟨S65536x64, .f32⟩
  | 95 => ⟨S65536x64, .f32⟩
  | 96 => ⟨S_, .f32⟩
  | 97 => ⟨S65536x64, .f32⟩
  | 98 => ⟨S65536x64, .i1⟩
  | 99 => ⟨S_, .f32⟩
  | 100 => ⟨S65536x64, .f32⟩
  | 101 => ⟨S65536x64, .f32⟩
  | 102 => ⟨S65536x64, .f32⟩
  | 103 => ⟨S65536x512, .f32⟩
  | 104 => ⟨S1x512, .f32⟩
  | 105 => ⟨S65536x512, .f32⟩
  | 106 => ⟨S65536x512, .f32⟩
  | 107 => ⟨S_, .f32⟩
  | 108 => ⟨S65536x512, .f32⟩
  | 109 => ⟨S65536x512, .i1⟩
  | 110 => ⟨S_, .f32⟩
  | 111 => ⟨S65536x512, .f32⟩
  | 112 => ⟨S65536x512, .f32⟩
  | 113 => ⟨S65536x512, .f32⟩
  | 114 => ⟨S_, .f32⟩
  | 115 => ⟨S65536, .f32⟩
  | 116 => ⟨S_, .f32⟩
  | 117 => ⟨S65536, .f32⟩
  | 118 => ⟨S65536, .f32⟩
  | 119 => ⟨S65536x1, .f32⟩
  | 120 => ⟨S65536x512, .f32⟩
  | 121 => ⟨S65536x512, .f32⟩
  | 122 => ⟨S65536x512, .f32⟩
  | 123 => ⟨S_, .f32⟩
  | 124 => ⟨S65536, .f32⟩
  | 125 => ⟨S65536x1, .f32⟩
  | 126 => ⟨S65536x512, .f32⟩
  | 127 => ⟨S65536x512, .f32⟩
  | _ => ⟨S65536x64, .f32⟩

abbrev hbmTy0_1 (i : Nat) : BufTy := match i % 128 with
  | 0 => ⟨S65536x512, .i32⟩
  | 1 => ⟨S_, .f32⟩
  | 2 => ⟨S_, .i32⟩
  | 3 => ⟨S65536, .f32⟩
  | 4 => ⟨S65536, .i32⟩
  | 5 => ⟨S65536x512, .i32⟩
  | 6 => ⟨S_, .f32⟩
  | 7 => ⟨S_, .i32⟩
  | 8 => ⟨S65536, .f32⟩
  | 9 => ⟨S65536, .i32⟩
  | 10 => ⟨S131072x32, .f32⟩
  | 11 => ⟨S131072, .i32⟩
  | 12 => ⟨S2x65536x32, .f32⟩
  | 13 => ⟨S2x32x1x2048, .i32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call6_v0 : Ref sig .tc := ⟨.hbm, 128, rfl⟩
abbrev main_call6_cst : Ref sig .tc := ⟨.hbm, 129, rfl⟩
abbrev main_call6_c : Ref sig .tc := ⟨.hbm, 130, rfl⟩
abbrev main_call6_v1_0 : Ref sig .tc := ⟨.hbm, 131, rfl⟩
abbrev main_v89 : Ref sig .tc := ⟨.hbm, 132, rfl⟩
abbrev main_call7_v0 : Ref sig .tc := ⟨.hbm, 133, rfl⟩
abbrev main_call7_cst : Ref sig .tc := ⟨.hbm, 134, rfl⟩
abbrev main_call7_c : Ref sig .tc := ⟨.hbm, 135, rfl⟩
abbrev main_call7_v1_0 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]
-- ==== Proof.Words.Start.lean ====
/- What the frame of the kernel on words needs about its grid: the branch at the first point, the staging buffers, and how
   the frame follows from a run that names no output. -/
module

public import proofs.«01_k».proof.Proof.Gen.Kernel.Frame
public import proofs.«01_k».proof.Proof.Gen.Kernel.Skeleton

@[expose] public section

set_option maxRecDepth 16384

noncomputable section

namespace Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A run that leaves the inputs as the host code found them is a frame. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 10 rfl).trans ((hA c 10).trans (V_main_arg12 m c)),
      (Pipeline.RDat.FramePost.arr_in h c 11 rfl).trans ((hA c 11).trans (V_main_arg13 m c)),
      (Pipeline.RDat.FramePost.arr_in h c 12 rfl).trans ((hA c 12).trans (V_main_arg14 m c)),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-! ## The body's branch conditions -/

/-- The condition of the branch that stores the tanh of the centroids. -/
abbrev cond0_0 (i : grid0.Coords) : Prop := k0_cond1 i = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## The inputs' windows are touched at every point -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
/-! ## The staging buffers -/

/-- Each window's staging buffer at a point, and that it is a whole buffer. -/
abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x72 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S72x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S72x72 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S72x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x32 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x72 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S72x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S72x72 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S72x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x32 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x2048x32 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S2x1x1x2048 .i32 := win0_19.stage (cfg0.slots t 19)
abbrev hs0_19 (t : Fin cfg0.N) : (ms0_19 t).IsWhole := hstage0_19 ((cfg0.slots t 19).cast nbuf0_19)

end Words

end
-- ==== Proof.Words.First.lean ====
/- The body of the kernel on words of memory at the first point of the grid runs to its end and gives its inputs back. -/
module

public import proofs.«01_k».proof.Proof.Words.Start

@[expose] public section

set_option maxRecDepth 16384

noncomputable section

namespace Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point: it runs to the end, gives its inputs back as they were, and leaves something in each output. -/
theorem firstRun (c : Dev nD) (i : grid0.Coords) (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole) (hc0 : cond0_0 i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Words

end
-- ==== Proof.Words.Later.lean ====
/- The same at every later point. -/
module

public import proofs.«01_k».proof.Proof.Words.First

@[expose] public section

set_option maxRecDepth 16384

noncomputable section

namespace Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a later point, likewise. -/
theorem laterRun (c : Dev nD) (i : grid0.Coords) (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole) (hc0 : ¬cond0_0 i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Words

end
-- ==== Proof.Words.Frame.lean ====
/- The frame of the kernel on words: every point runs, so the program ends with its arguments as they were and its semaphores at zero. -/
module

public import proofs.«01_k».proof.Proof.Words.Later
public import Idealize.ShloMosaic.Lib.Claim

@[expose] public section

set_option maxRecDepth 16384

noncomputable section

namespace Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The three outputs, of whose contents the frame says nothing. -/
def forgets0 : Fin 20 → Bool := fun w => w.val == 17 || w.val == 18 || w.val == 19

/-- What each window's staging buffer holds after a point: an input its block; an output is left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The arrays are as the host code leaves them. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 4000000 in
/-- The body runs at every point: the first takes the branch, the later ones do not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 32 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((firstRun c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t], after0_13]
    rw [show (dats m 0 c).leavesExact 14 t = owns (c : Thread nD τ) (ms0_14 t) fullShare ((dats m 0 c).after 14 t) from by
      unfold Dat.leavesExact; rw [liveAt0_14 t], after0_14]
    rw [show (dats m 0 c).leavesExact 15 t = owns (c : Thread nD τ) (ms0_15 t) fullShare ((dats m 0 c).after 15 t) from by
      unfold Dat.leavesExact; rw [liveAt0_15 t], after0_15]
    rw [show (dats m 0 c).leavesExact 16 t = owns (c : Thread nD τ) (ms0_16 t) fullShare ((dats m 0 c).after 16 t) from by
      unfold Dat.leavesExact; rw [liveAt0_16 t], after0_16]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((laterRun c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body with a point's buffers. -/
theorem defs₀_row (t : Fin cfg0.N) :
    defs₀ (F := F) .tc cfg0.body (cfg0.bodyArgs t (cfg0.slots t)) = bodyAt0 t := by
  unfold defs₀; rw [Defs.onTc_tc]

/-- So every point meets what the pipeline asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole run, with every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of_forgotten m ρ (fun c => (dats m 0 c).toRForget forgets0) (A_eq m) (run_main m ρ)

/-- Both together. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Words

end
-- ==== Proof.Fused.Start.lean ====
/- What the hand proof of the fused kernel's run needs about its grid: where the first-point branch is taken, which windows
   each point stores into, and names for the staging buffers. -/
module

public import proofs.«01_k».proof.Proof.Gen.KernelIdeal.Frame
public import proofs.«01_k».proof.Proof.Gen.KernelIdeal.Skeleton

@[expose] public section

set_option maxRecDepth 16384

noncomputable section

namespace Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the branch that stores the tanh of the centroids. -/
abbrev atStart (i : grid0.Coords) : Prop := k0_cond1 i = 1#1

/-- It holds at the first point of the grid only. -/
theorem atStart_iff : ∀ t : Fin cfg0.N, atStart (grid0.coords t) ↔ t.val = 0 :=
  (by decide +kernel : ∀ t : Fin grid0.N, atStart (grid0.coords t) ↔ t.val = 0)

/-- Every window but the one of the centroids' result is touched at every point. -/
theorem touched (w : Fin cfg0.W) (hw : w ≠ 17) (t : Fin cfg0.N) : cfg0.idle w (grid0.coords t) = false := by
  revert hw; fin_cases w <;> first | exact fun _ => rfl | exact fun h => absurd rfl h

/-- The centroids' result is stored into at the first point, -/
theorem touched_start : ∀ t : Fin cfg0.N, atStart (grid0.coords t) → cfg0.idle 17 (grid0.coords t) = false :=
  (by decide +kernel : ∀ t : Fin grid0.N, atStart (grid0.coords t) → cfg0.idle 17 (grid0.coords t) = false)

/-- and left alone at every later point. -/
theorem idle_later : ∀ t : Fin cfg0.N, ¬atStart (grid0.coords t) → cfg0.idle 17 (grid0.coords t) = true :=
  (by decide +kernel : ∀ t : Fin grid0.N, ¬atStart (grid0.coords t) → cfg0.idle 17 (grid0.coords t) = true)

/-- Window 0's staging buffer at a point, and that it is a whole buffer. -/
abbrev st0 (t : Fin cfg0.N) : Memref sig .tc .vmem S2048x64 .f32 := win0_0.stage (cfg0.slots t 0)
abbrev wh0 (t : Fin cfg0.N) : (st0 t).IsWhole := hstage0_0 ((cfg0.slots t 0).cast nbuf0_0)
/-- Window 1's staging buffer at a point, and that it is a whole buffer. -/
abbrev st1 (t : Fin cfg0.N) : Memref sig .tc .vmem S2048x64 .f32 := win0_1.stage (cfg0.slots t 1)
abbrev wh1 (t : Fin cfg0.N) : (st1 t).IsWhole := hstage0_1 ((cfg0.slots t 1).cast nbuf0_1)
/-- Window 2's staging buffer at a point, and that it is a whole buffer. -/
abbrev st2 (t : Fin cfg0.N) : Memref sig .tc .vmem S512x32 .f32 := win0_2.stage (cfg0.slots t 2)
abbrev wh2 (t : Fin cfg0.N) : (st2 t).IsWhole := hstage0_2 ((cfg0.slots t 2).cast nbuf0_2)
/-- Window 3's staging buffer at a point, and that it is a whole buffer. -/
abbrev st3 (t : Fin cfg0.N) : Memref sig .tc .vmem S64x64 .f32 := win0_3.stage (cfg0.slots t 3)
abbrev wh3 (t : Fin cfg0.N) : (st3 t).IsWhole := hstage0_3 ((cfg0.slots t 3).cast nbuf0_3)
/-- Window 4's staging buffer at a point, and that it is a whole buffer. -/
abbrev st4 (t : Fin cfg0.N) : Memref sig .tc .vmem S64x64 .f32 := win0_4.stage (cfg0.slots t 4)
abbrev wh4 (t : Fin cfg0.N) : (st4 t).IsWhole := hstage0_4 ((cfg0.slots t 4).cast nbuf0_4)
/-- Window 5's staging buffer at a point, and that it is a whole buffer. -/
abbrev st5 (t : Fin cfg0.N) : Memref sig .tc .vmem S64x32 .f32 := win0_5.stage (cfg0.slots t 5)
abbrev wh5 (t : Fin cfg0.N) : (st5 t).IsWhole := hstage0_5 ((cfg0.slots t 5).cast nbuf0_5)
/-- Window 6's staging buffer at a point, and that it is a whole buffer. -/
abbrev st6 (t : Fin cfg0.N) : Memref sig .tc .vmem S32x72 .f32 := win0_6.stage (cfg0.slots t 6)
abbrev wh6 (t : Fin cfg0.N) : (st6 t).IsWhole := hstage0_6 ((cfg0.slots t 6).cast nbuf0_6)
/-- Window 7's staging buffer at a point, and that it is a whole buffer. -/
abbrev st7 (t : Fin cfg0.N) : Memref sig .tc .vmem S72x1 .f32 := win0_7.stage (cfg0.slots t 7)
abbrev wh7 (t : Fin cfg0.N) : (st7 t).IsWhole := hstage0_7 ((cfg0.slots t 7).cast nbuf0_7)
/-- Window 8's staging buffer at a point, and that it is a whole buffer. -/
abbrev st8 (t : Fin cfg0.N) : Memref sig .tc .vmem S72x72 .f32 := win0_8.stage (cfg0.slots t 8)
abbrev wh8 (t : Fin cfg0.N) : (st8 t).IsWhole := hstage0_8 ((cfg0.slots t 8).cast nbuf0_8)
/-- Window 9's staging buffer at a point, and that it is a whole buffer. -/
abbrev st9 (t : Fin cfg0.N) : Memref sig .tc .vmem S72x512 .f32 := win0_9.stage (cfg0.slots t 9)
abbrev wh9 (t : Fin cfg0.N) : (st9 t).IsWhole := hstage0_9 ((cfg0.slots t 9).cast nbuf0_9)
/-- Window 10's staging buffer at a point, and that it is a whole buffer. -/
abbrev st10 (t : Fin cfg0.N) : Memref sig .tc .vmem S64x64 .f32 := win0_10.stage (cfg0.slots t 10)
abbrev wh10 (t : Fin cfg0.N) : (st10 t).IsWhole := hstage0_10 ((cfg0.slots t 10).cast nbuf0_10)
/-- Window 11's staging buffer at a point, and that it is a whole buffer. -/
abbrev st11 (t : Fin cfg0.N) : Memref sig .tc .vmem S64x64 .f32 := win0_11.stage (cfg0.slots t 11)
abbrev wh11 (t : Fin cfg0.N) : (st11 t).IsWhole := hstage0_11 ((cfg0.slots t 11).cast nbuf0_11)
/-- Window 12's staging buffer at a point, and that it is a whole buffer. -/
abbrev st12 (t : Fin cfg0.N) : Memref sig .tc .vmem S64x32 .f32 := win0_12.stage (cfg0.slots t 12)
abbrev wh12 (t : Fin cfg0.N) : (st12 t).IsWhole := hstage0_12 ((cfg0.slots t 12).cast nbuf0_12)
/-- Window 13's staging buffer at a point, and that it is a whole buffer. -/
abbrev st13 (t : Fin cfg0.N) : Memref sig .tc .vmem S32x72 .f32 := win0_13.stage (cfg0.slots t 13)
abbrev wh13 (t : Fin cfg0.N) : (st13 t).IsWhole := hstage0_13 ((cfg0.slots t 13).cast nbuf0_13)
/-- Window 14's staging buffer at a point, and that it is a whole buffer. -/
abbrev st14 (t : Fin cfg0.N) : Memref sig .tc .vmem S72x1 .f32 := win0_14.stage (cfg0.slots t 14)
abbrev wh14 (t : Fin cfg0.N) : (st14 t).IsWhole := hstage0_14 ((cfg0.slots t 14).cast nbuf0_14)
/-- Window 15's staging buffer at a point, and that it is a whole buffer. -/
abbrev st15 (t : Fin cfg0.N) : Memref sig .tc .vmem S72x72 .f32 := win0_15.stage (cfg0.slots t 15)
abbrev wh15 (t : Fin cfg0.N) : (st15 t).IsWhole := hstage0_15 ((cfg0.slots t 15).cast nbuf0_15)
/-- Window 16's staging buffer at a point, and that it is a whole buffer. -/
abbrev st16 (t : Fin cfg0.N) : Memref sig .tc .vmem S72x512 .f32 := win0_16.stage (cfg0.slots t 16)
abbrev wh16 (t : Fin cfg0.N) : (st16 t).IsWhole := hstage0_16 ((cfg0.slots t 16).cast nbuf0_16)
/-- Window 17's staging buffer at a point, and that it is a whole buffer. -/
abbrev st17 (t : Fin cfg0.N) : Memref sig .tc .vmem S512x32 .f32 := win0_17.stage (cfg0.slots t 17)
abbrev wh17 (t : Fin cfg0.N) : (st17 t).IsWhole := hstage0_17 ((cfg0.slots t 17).cast nbuf0_17)
/-- Window 18's staging buffer at a point, and that it is a whole buffer. -/
abbrev st18 (t : Fin cfg0.N) : Memref sig .tc .vmem S2x2048x32 .f32 := win0_18.stage (cfg0.slots t 18)
abbrev wh18 (t : Fin cfg0.N) : (st18 t).IsWhole := hstage0_18 ((cfg0.slots t 18).cast nbuf0_18)
/-- Window 19's staging buffer at a point, and that it is a whole buffer. -/
abbrev st19 (t : Fin cfg0.N) : Memref sig .tc .vmem S2x1x1x2048 .i32 := win0_19.stage (cfg0.slots t 19)
abbrev wh19 (t : Fin cfg0.N) : (st19 t).IsWhole := hstage0_19 ((cfg0.slots t 19).cast nbuf0_19)

end Fused

end
-- ==== Proof.Fused.First.lean ====
/- The fused kernel's body at the first point of the grid, where it stores into all three outputs. -/
module

public import proofs.«01_k».proof.Proof.Fused.Start

@[expose] public section

set_option maxRecDepth 16384

noncomputable section

namespace Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on whole staging buffers holding `x0 … x16`: what it writes into each of its three outputs, as the list
    of its stores, with the proof that it runs to the end with the inputs as they were. -/
noncomputable def firstRun (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) :
    Σ' (L17 : List (View.Piece (Elt F) S512x32 .f32)), Σ' (L18 : List (View.Piece (Elt F) S2x2048x32 .f32)), { L19 : List (View.Piece (Elt F) S2x1x1x2048 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    iexists _; iexact H19

end Fused

end
-- ==== Proof.Fused.Later.lean ====
/- The fused kernel's body at a later point of the grid, where it leaves the centroids' result alone. -/
module

public import proofs.«01_k».proof.Proof.Fused.First

@[expose] public section

set_option maxRecDepth 16384

noncomputable section

namespace Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later point, on whole staging buffers holding `x0 … x16`: what it writes into the two outputs it stores into, as the list
    of its stores, with the proof that it runs to the end with the inputs and the centroids' result as they were. -/
noncomputable def laterRun (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : ¬atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) (xo : Vec F S512x32 .f32) :
    Σ' (L18 : List (View.Piece (Elt F) S2x2048x32 .f32)), { L19 : List (View.Piece (Elt F) S2x1x1x2048 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xo ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare xo ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    iexists _; iexact H19

end Fused

end
-- ==== Proof.Fused.Blocks.lean ====
/- What the fused kernel's body leaves in its three output blocks, as functions of its input blocks. -/
module

public import proofs.«01_k».proof.Proof.Fused.First
public import proofs.«01_k».proof.Proof.Fused.Later
public import Idealize.ShloMosaic.Lib.WritesUnit
public import Idealize.ShloMosaic.Lib.WholeRead
public import Idealize.ShloMosaic.Lib.Pointwise

@[expose] public section

set_option maxRecDepth 16384

noncomputable section

namespace Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer of rank 2 reads all of it. -/
theorem load_whole {n k : ℕ} {e : EltTy} {sp : Space} {arg : Memref sig .tc sp ⟨2, ![n, k]⟩ e} (h : arg.IsWhole)
    (x : (⟨2, ![n, k]⟩ : Shape).Idx → Elt F e) (inb) :
    View.readAt (Elt F) arg.view (Rect.unit (s := ⟨2, ![n, k]⟩) ![0, 0] ![n, k] inb).toLoadRect (h.unread x) = x := by
  funext y
  rw [h.readAt_unread]
  congr 1
  funext a
  apply Fin.ext
  match a with
  | ⟨0, _⟩ => show 0 + 1 * (y 0).val = (y 0).val; omega
  | ⟨1, _⟩ => show 0 + 1 * (y 1).val = (y 1).val; omega

/-- The two modalities' encodings of a block of rows, stacked. -/
def seBlock (a b : FVec F S2048x32 .f32) : Vec F S2x2048x32 .f32 :=
  fun y => if (y 0).val = 0 then a (ix2 (n0 := 2048) (n1 := 32) (y 1) (y 2)) else b (ix2 (n0 := 2048) (n1 := 32) (y 1) (y 2))

/-- The two modalities' classes of a block of rows, stacked. -/
def wcBlock (a b : IVec S1x1x1x2048 32) : Vec F S2x1x1x2048 .i32 :=
  fun y => if (y 0).val = 0 then a (ix4 (n0 := 1) (n1 := 1) (n2 := 1) (n3 := 2048) 0 0 0 (y 3)) else b (ix4 (n0 := 1) (n1 := 1) (n2 := 1) (n3 := 2048) 0 0 0 (y 3))

/-- One modality's classes of a block of rows, from the rows and the modality's weights as the kernel lays them out. -/
def classRow (x : Vec F S2048x64 .f32) (w1 w2 : Vec F S64x64 .f32) (w3 : Vec F S64x32 .f32) (m1 : Vec F S32x72 .f32) (b1 : Vec F S72x1 .f32)
    (m2 : Vec F S72x72 .f32) (m3 : Vec F S72x512 .f32) : IVec S1x1x1x2048 32 :=
  k0_pay7 (k0_pay5 x w1 w2 w3 m1 b1 m2) k0_pay6 m3

/-- Two stores, one per modality, leave the stacked encodings. -/
theorem read_se {κ : Kind} {sp : Space} (v : View sig κ sp S2x2048x32 .f32) (f : v.ty.Contents (Elt F))
    (a b : FVec F S2048x32 .f32) (h h' i1 i0) :
    v.read (Elt F) (v.writes (Elt F) f [⟨Rect.unit (s := S2x2048x32) ![1, 0, 0] ![1, 2048, 32] i1, shapeCast S1x2048x32 b h⟩,
      ⟨Rect.unit (s := S2x2048x32) ![0, 0, 0] ![1, 2048, 32] i0, shapeCast S1x2048x32 a h'⟩]) = seBlock a b := by
  funext y
  unfold seBlock
  by_cases hy : (y 0).val = 0
  · rw [if_pos hy, View.read_writes_cons_unit_of_not_mem v f i1 _ _ y rfl (0 : Fin 3) (Or.inl (by rw [hy]; decide)),
      View.read_writes_cons_unit_of_mem v f i0 _ _ y (ix3 (n0 := 1) (n1 := 2048) (n2 := 32) 0 (y 1) (y 2)) rfl (by
        intro a
        match a with
        | ⟨0, _⟩ => exact hy
        | ⟨1, _⟩ => exact (Nat.zero_add _).symm
        | ⟨2, _⟩ => exact (Nat.zero_add _).symm)]
    pointwise
  · have h1 : (y 0).val = 1 := by have : (y 0).val < 2 := (y 0).isLt; omega
    rw [if_neg hy, View.read_writes_cons_unit_of_mem v f i1 _ _ y (ix3 (n0 := 1) (n1 := 2048) (n2 := 32) 0 (y 1) (y 2)) rfl (by
        intro a
        match a with
        | ⟨0, _⟩ => exact h1
        | ⟨1, _⟩ => exact (Nat.zero_add _).symm
        | ⟨2, _⟩ => exact (Nat.zero_add _).symm)]
    pointwise

/-- Two stores, one per modality, leave the stacked classes. -/
theorem read_wc {κ : Kind} {sp : Space} (v : View sig κ sp S2x1x1x2048 .i32) (f : v.ty.Contents (Elt F))
    (a b : IVec S1x1x1x2048 32) (i1 i0) :
    v.read (Elt F) (v.writes (Elt F) f [⟨Rect.unit (s := S2x1x1x2048) ![1, 0, 0, 0] ![1, 1, 1, 2048] i1, b⟩,
      ⟨Rect.unit (s := S2x1x1x2048) ![0, 0, 0, 0] ![1, 1, 1, 2048] i0, a⟩]) = wcBlock (F := F) a b := by
  funext y
  unfold wcBlock
  have e1 : (y 1).val = 0 := by have : (y 1).val < 1 := (y 1).isLt; omega
  have e2 : (y 2).val = 0 := by have : (y 2).val < 1 := (y 2).isLt; omega
  by_cases hy : (y 0).val = 0
  · rw [if_pos hy, View.read_writes_cons_unit_of_not_mem v f i1 _ _ y rfl (0 : Fin 4) (Or.inl (by rw [hy]; decide)),
      View.read_writes_cons_unit_of_mem v f i0 _ _ y (ix4 (n0 := 1) (n1 := 1) (n2 := 1) (n3 := 2048) 0 0 0 (y 3)) rfl (by
        intro a
        match a with
        | ⟨0, _⟩ => exact hy
        | ⟨1, _⟩ => exact e1
        | ⟨2, _⟩ => exact e2
        | ⟨3, _⟩ => exact (Nat.zero_add _).symm)]
  · have h1 : (y 0).val = 1 := by have : (y 0).val < 2 := (y 0).isLt; omega
    rw [if_neg hy, View.read_writes_cons_unit_of_mem v f i1 _ _ y (ix4 (n0 := 1) (n1 := 1) (n2 := 1) (n3 := 2048) 0 0 0 (y 3)) rfl (by
        intro a
        match a with
        | ⟨0, _⟩ => exact h1
        | ⟨1, _⟩ => exact e1
        | ⟨2, _⟩ => exact e2
        | ⟨3, _⟩ => exact (Nat.zero_add _).symm)]

/-- The one store of the centroids' hyperbolic tangents fills its block. -/
theorem read_c {κ : Kind} {sp : Space} (v : View sig κ sp S512x32 .f32) (f : v.ty.Contents (Elt F)) (a : FVec F S512x32 .f32) (i0) :
    v.read (Elt F) (v.writes (Elt F) f [⟨Rect.unit (s := S512x32) ![0, 0] ![512, 32] i0, a⟩]) = a := by
  funext y
  rw [View.read_writes_cons_unit_of_mem v f i0 _ _ y y rfl (by
    intro a
    match a with
    | ⟨0, _⟩ => exact (Nat.zero_add _).symm
    | ⟨1, _⟩ => exact (Nat.zero_add _).symm)]

/-- At the first point the centroids' block ends at their hyperbolic tangents. -/
theorem first_c {κ : Kind} {sp : Space}  (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32)
    (v : View sig κ sp S512x32 .f32) (f : v.ty.Contents (Elt F)) :
    v.read (Elt F) (v.writes (Elt F) f (firstRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10 x11 x12 x13 x14 x15 x16).1) = k0_pay2 x2 := by
  unfold firstRun
  dsimp only
  simp only [load_whole]
  exact read_c v f _ _

/-- At the first point the encodings' block ends at both modalities' encodings. -/
theorem first_se {κ : Kind} {sp : Space}  (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32)
    (v : View sig κ sp S2x2048x32 .f32) (f : v.ty.Contents (Elt F)) :
    v.read (Elt F) (v.writes (Elt F) f (firstRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10 x11 x12 x13 x14 x15 x16).2.1) = seBlock (k0_pay3 x0 x3 x4 x5) (k0_pay3 x1 x10 x11 x12) := by
  unfold firstRun
  dsimp only
  simp only [load_whole]
  exact read_se v f _ _ _ _ _ _

/-- At the first point the classes' block ends at both modalities' classes. -/
theorem first_wc {κ : Kind} {sp : Space}  (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32)
    (v : View sig κ sp S2x1x1x2048 .i32) (f : v.ty.Contents (Elt F)) :
    v.read (Elt F) (v.writes (Elt F) f (firstRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10 x11 x12 x13 x14 x15 x16).2.2.1) = wcBlock (classRow x0 x3 x4 x5 x6 x7 x8 x9) (classRow x1 x10 x11 x12 x13 x14 x15 x16) := by
  unfold firstRun
  dsimp only
  unfold firstRun.sl.r firstRun.sl.r_1
  simp only [load_whole]
  exact read_wc v f _ _ _ _

/-- At a later point the encodings' block ends at both modalities' encodings. -/
theorem later_se {κ : Kind} {sp : Space}  (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : ¬atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) (xo : Vec F S512x32 .f32)

    (v : View sig κ sp S2x2048x32 .f32) (f : v.ty.Contents (Elt F)) :
    v.read (Elt F) (v.writes (Elt F) f (laterRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10 x11 x12 x13 x14 x15 x16 xo).1) = seBlock (k0_pay3 x0 x3 x4 x5) (k0_pay3 x1 x10 x11 x12) := by
  unfold laterRun
  dsimp only
  simp only [load_whole]
  exact read_se v f _ _ _ _ _ _

/-- At a later point the classes' block ends at both modalities' classes. -/
theorem later_wc {κ : Kind} {sp : Space}  (c : Dev nD) (i : grid0.Coords)
    (arg1 : Memref sig .tc .vmem S2048x64 .f32) (harg1 : arg1.IsWhole) (arg2 : Memref sig .tc .vmem S2048x64 .f32) (harg2 : arg2.IsWhole) (arg3 : Memref sig .tc .vmem S512x32 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x32 .f32) (harg6 : arg6.IsWhole) (arg7 : Memref sig .tc .vmem S32x72 .f32) (harg7 : arg7.IsWhole) (arg8 : Memref sig .tc .vmem S72x1 .f32) (harg8 : arg8.IsWhole) (arg9 : Memref sig .tc .vmem S72x72 .f32) (harg9 : arg9.IsWhole) (arg10 : Memref sig .tc .vmem S72x512 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S64x32 .f32) (harg13 : arg13.IsWhole) (arg14 : Memref sig .tc .vmem S32x72 .f32) (harg14 : arg14.IsWhole) (arg15 : Memref sig .tc .vmem S72x1 .f32) (harg15 : arg15.IsWhole) (arg16 : Memref sig .tc .vmem S72x72 .f32) (harg16 : arg16.IsWhole) (arg17 : Memref sig .tc .vmem S72x512 .f32) (harg17 : arg17.IsWhole) (arg18 : Memref sig .tc .vmem S512x32 .f32) (harg18 : arg18.IsWhole) (arg19 : Memref sig .tc .vmem S2x2048x32 .f32) (harg19 : arg19.IsWhole) (arg20 : Memref sig .tc .vmem S2x1x1x2048 .i32) (harg20 : arg20.IsWhole)
    (hc : ¬atStart i)
    (x0 : Vec F S2048x64 .f32) (x1 : Vec F S2048x64 .f32) (x2 : Vec F S512x32 .f32) (x3 : Vec F S64x64 .f32) (x4 : Vec F S64x64 .f32) (x5 : Vec F S64x32 .f32) (x6 : Vec F S32x72 .f32) (x7 : Vec F S72x1 .f32) (x8 : Vec F S72x72 .f32) (x9 : Vec F S72x512 .f32) (x10 : Vec F S64x64 .f32) (x11 : Vec F S64x64 .f32) (x12 : Vec F S64x32 .f32) (x13 : Vec F S32x72 .f32) (x14 : Vec F S72x1 .f32) (x15 : Vec F S72x72 .f32) (x16 : Vec F S72x512 .f32) (xo : Vec F S512x32 .f32)

    (v : View sig κ sp S2x1x1x2048 .i32) (f : v.ty.Contents (Elt F)) :
    v.read (Elt F) (v.writes (Elt F) f (laterRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc x0 x1 x2 x3 x4 x5 x6 x7 x8 x9 x10 x11 x12 x13 x14 x15 x16 xo).2.1) = wcBlock (classRow x0 x3 x4 x5 x6 x7 x8 x9) (classRow x1 x10 x11 x12 x13 x14 x15 x16) := by
  unfold laterRun
  dsimp only
  unfold laterRun.sl.r laterRun.sl.r_1
  simp only [load_whole]
  exact read_wc v f _ _ _ _

end Fused

end
-- ==== Proof.Fused.Run.lean ====
/- The launch of the fused kernel: what every block holds after every point, and the run. -/
module

public import proofs.«01_k».proof.Proof.Fused.Blocks
public import Idealize.ShloMosaic.Lib.Claim
public import Idealize.ShloMosaic.Lib.Pipeline.TableIdle

@[expose] public section

set_option maxRecDepth 16384

noncomputable section

namespace Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid. -/
abbrev start : Fin cfg0.N := ⟨0, by rw [show cfg0.N = 32 from N_0]; decide⟩

/-- The hyperbolic tangents of the centroids. -/
abbrev cAt (c : Dev nD) : Vec F S512x32 .f32 := k0_pay2 (iblk m c 2 start)

/-- Both modalities' encodings of the rows of a point's blocks. -/
abbrev seAt (c : Dev nD) (t : Fin cfg0.N) : Vec F S2x2048x32 .f32 :=
  seBlock (k0_pay3 (iblk m c 0 t) (iblk m c 3 t) (iblk m c 4 t) (iblk m c 5 t))
    (k0_pay3 (iblk m c 1 t) (iblk m c 10 t) (iblk m c 11 t) (iblk m c 12 t))

/-- Both modalities' classes of the rows of a point's blocks. -/
abbrev wcAt (c : Dev nD) (t : Fin cfg0.N) : Vec F S2x1x1x2048 .i32 :=
  wcBlock (classRow (iblk m c 0 t) (iblk m c 3 t) (iblk m c 4 t) (iblk m c 5 t) (iblk m c 6 t) (iblk m c 7 t) (iblk m c 8 t) (iblk m c 9 t))
    (classRow (iblk m c 1 t) (iblk m c 10 t) (iblk m c 11 t) (iblk m c 12 t) (iblk m c 13 t) (iblk m c 14 t) (iblk m c 15 t) (iblk m c 16 t))

/-- The pipeline's proof data: an input's buffer holds its block after every point, the centroids' result its one block from the first
    point on, and the other two results what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => cAt m c
    | ⟨18, _⟩ => seAt m c t
    | ⟨19, _⟩ => wcAt m c t
    | ⟨_ + 20, h⟩ => absurd h (Nat.not_lt.2 (Nat.le_add_left _ _))
  Φ _ := Pipeline.ΦA spec0 c
  q _ := fullShare
  owed _ := 0

/-- The arrays are as the region finds them. -/
theorem arr_eq (c : Dev nD) (w : Fin cfg0.W) : (dats m 0 c).A w = V m c (Pipeline.arrRef spec0 w) := by
  dsimp only [dats]

/-! What each window's buffer holds after a point, and an input's before it. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = cAt m c := by dsimp only [dats]
theorem after_18 (c : Dev nD) (t : Fin cfg0.N) : (dats m 0 c).after 18 t = seAt m c t := by dsimp only [dats]
theorem after_19 (c : Dev nD) (t : Fin cfg0.N) : (dats m 0 c).after 19 t = wcAt m c t := by dsimp only [dats]
theorem before_0 (c : Dev nD) (t : Fin cfg0.N) (d) : (dats m 0 c).before 0 t d = iblk m c 0 t :=
  before0_0_of m (dats m 0 c) (arr_eq m c 0) (after_0 m c) t d
theorem before_1 (c : Dev nD) (t : Fin cfg0.N) (d) : (dats m 0 c).before 1 t d = iblk m c 1 t :=
  before0_1_of m (dats m 0 c) (arr_eq m c 1) (after_1 m c) t d
theorem before_2 (c : Dev nD) (t : Fin cfg0.N) (d) : (dats m 0 c).before 2 t d = iblk m c 2 t :=
  before0_2_of m (dats m 0 c) (arr_eq m c 2) (after_2 m c) t d
theorem before_3 (c : Dev nD) (t : Fin cfg0.N) (d) : (dats m 0 c).before 3 t d = iblk m c 3 t :=
  before0_3_of m (dats m 0 c) (arr_eq m c 3) (after_3 m c) t d
theorem before_4 (c : Dev nD) (t : Fin cfg0.N) (d) : (dats m 0 c).before 4 t d = iblk m c 4 t :=
  before0_4_of m (dats m 0 c) (arr_eq m c 4) (after_4 m c) t d
theorem before_5 (c : Dev nD) (t : Fin cfg0.N) (d) : (dats m 0 c).before 5 t d = iblk m c 5 t :=
  before0_5_of m (dats m 0 c) (arr_eq m c 5) (after_5 m c) t d
theorem before_6 (c : Dev nD) (t : Fin cfg0.N) (d) : (dats m 0 c).before 6 t d = iblk m c 6 t :=
  before0_6_of m (dats m 0 c) (arr_eq m c 6) (after_6 m c) t d
theorem before_7 (c : Dev nD) (t : Fin cfg0.N) (d) : (dats m 0 c).before 7 t d = iblk m c 7 t :=
  before0_7_of m (dats m 0 c) (arr_eq m c 7) (after_7 m c) t d
theorem before_8 (c : Dev nD) (t : Fin cfg0.N) (d) : (dats m 0 c).before 8 t d = iblk m c 8 t :=
  before0_8_of m (dats m 0 c) (arr_eq m c 8) (after_8 m c) t d
theorem before_9 (c : Dev nD) (t : Fin cfg0.N) (d) : (dats m 0 c).before 9 t d = iblk m c 9 t :=
  before0_9_of m (dats m 0 c) (arr_eq m c 9) (after_9 m c) t d
theorem before_10 (c : Dev nD) (t : Fin cfg0.N) (d) : (dats m 0 c).before 10 t d = iblk m c 10 t :=
  before0_10_of m (dats m 0 c) (arr_eq m c 10) (after_10 m c) t d
theorem before_11 (c : Dev nD) (t : Fin cfg0.N) (d) : (dats m 0 c).before 11 t d = iblk m c 11 t :=
  before0_11_of m (dats m 0 c) (arr_eq m c 11) (after_11 m c) t d
theorem before_12 (c : Dev nD) (t : Fin cfg0.N) (d) : (dats m 0 c).before 12 t d = iblk m c 12 t :=
  before0_12_of m (dats m 0 c) (arr_eq m c 12) (after_12 m c) t d
theorem before_13 (c : Dev nD) (t : Fin cfg0.N) (d) : (dats m 0 c).before 13 t d = iblk m c 13 t :=
  before0_13_of m (dats m 0 c) (arr_eq m c 13) (after_13 m c) t d
theorem before_14 (c : Dev nD) (t : Fin cfg0.N) (d) : (dats m 0 c).before 14 t d = iblk m c 14 t :=
  before0_14_of m (dats m 0 c) (arr_eq m c 14) (after_14 m c) t d
theorem before_15 (c : Dev nD) (t : Fin cfg0.N) (d) : (dats m 0 c).before 15 t d = iblk m c 15 t :=
  before0_15_of m (dats m 0 c) (arr_eq m c 15) (after_15 m c) t d
theorem before_16 (c : Dev nD) (t : Fin cfg0.N) (d) : (dats m 0 c).before 16 t d = iblk m c 16 t :=
  before0_16_of m (dats m 0 c) (arr_eq m c 16) (after_16 m c) t d

/-- The centroids' result has been stored into before every later point, since its last write back. -/
theorem fresh_later : ∀ t : Fin cfg0.N, t.val ≠ 0 → cfg0.fresh 17 t.val = false := by
  have h := cfg0.fresh_tab 17 (fun n => n == 0 || n == 32) rfl
    (by decide +kernel : ∀ t : Fin grid0.N, _)
  intro t ht
  have hN : t.val < 32 := lt_of_lt_of_eq t.isLt (show cfg0.N = 32 from N_0)
  rw [h t.val (Nat.le_of_lt t.isLt)]
  simp only [Bool.or_eq_false_iff, beq_eq_false_iff_ne]
  omega

/-- So at a later point its buffer holds the block already. -/
theorem before_17 (c : Dev nD) (t : Fin cfg0.N) (ht : t.val ≠ 0) (d) : (dats m 0 c).before 17 t d = cAt m c := by
  rw [Dat.before_out_traj _ 17 rfl (fun _ _ => rfl) (fun _ _ _ _ => rfl) t.val t rfl d,
    if_neg (by rw [fresh_later t ht]; exact Bool.false_ne_true)]
  dsimp only [dats]

/-- A buffer that holds the block as it was and as it is to be is what a later point leaves. -/
theorem leaves_17 (c : Dev nD) (t : Fin cfg0.N) (ht : t.val ≠ 0) :
    (owns (c : Thread nD τ) (st17 t) fullShare (cAt m c) : sProp 𝕄) ⊢ (dats m 0 c).leavesExact 17 t := by
  unfold Dat.leavesExact
  rw [idle_later t fun h => ht ((atStart_iff t).mp h)]
  cases hf : (cfg0.win 17).flush t
  · simp only [hf, before_17 m c t ht]
    iintro H
    iexists (fun _ => Classical.arbitrary _)
    iexact H
  · simp only [hf, after_17]
    iintro H
    iexact H

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d))
    ∗ (∃ d, owns (c : Thread nD τ) (st19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

/-- A window the body touches at a point is left at the point's contents. -/
theorem leaves_touched (c : Dev nD) (t : Fin cfg0.N) (w : Fin cfg0.W) (h : cfg0.idle w (grid0.coords t) = false) :
    (dats m 0 c).leavesExact w t = (owns (c : Thread nD τ) ((cfg0.win w).stage (cfg0.slots t w)) fullShare ((dats m 0 c).after w t) : sProp 𝕄) := by
  unfold Dat.leavesExact
  rw [h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt () t.succ = (dats m 0 c).owesAt () t.castSucc from rfl]
  rw [leaves_touched m c t 0 (touched 0 (by decide) t), after_0]
  rw [leaves_touched m c t 1 (touched 1 (by decide) t), after_1]
  rw [leaves_touched m c t 2 (touched 2 (by decide) t), after_2]
  rw [leaves_touched m c t 3 (touched 3 (by decide) t), after_3]
  rw [leaves_touched m c t 4 (touched 4 (by decide) t), after_4]
  rw [leaves_touched m c t 5 (touched 5 (by decide) t), after_5]
  rw [leaves_touched m c t 6 (touched 6 (by decide) t), after_6]
  rw [leaves_touched m c t 7 (touched 7 (by decide) t), after_7]
  rw [leaves_touched m c t 8 (touched 8 (by decide) t), after_8]
  rw [leaves_touched m c t 9 (touched 9 (by decide) t), after_9]
  rw [leaves_touched m c t 10 (touched 10 (by decide) t), after_10]
  rw [leaves_touched m c t 11 (touched 11 (by decide) t), after_11]
  rw [leaves_touched m c t 12 (touched 12 (by decide) t), after_12]
  rw [leaves_touched m c t 13 (touched 13 (by decide) t), after_13]
  rw [leaves_touched m c t 14 (touched 14 (by decide) t), after_14]
  rw [leaves_touched m c t 15 (touched 15 (by decide) t), after_15]
  rw [leaves_touched m c t 16 (touched 16 (by decide) t), after_16]
  rw [leaves_touched m c t 18 (touched 18 (by decide) t), after_18]
  rw [leaves_touched m c t 19 (touched 19 (by decide) t), after_19]
  by_cases h0 : t.val = 0
  · have hc := (atStart_iff t).mpr h0
    obtain rfl : t = start := Fin.ext h0
    rw [leaves_touched m c start 17 (touched_start start hc), after_17]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((firstRun c (grid0.coords start) _ _ _ _ _ _ _ _ _ _ _ _ _ _ _ _ _ _ _ _ _ _ _ _ _ _ _ _ _ _ _ _ _ _ _ _ _ _ _ _ hc (iblk m c 0 start) (iblk m c 1 start) (iblk m c 2 start) (iblk m c 3 start) (iblk m c 4 start) (iblk m c 5 start) (iblk m c 6 start) (iblk m c 7 start) (iblk m c 8 start) (iblk m c 9 start) (iblk m c 10 start) (iblk m c 11 start) (iblk m c 12 start) (iblk m c 13 start) (iblk m c 14 start) (iblk m c 15 start) (iblk m c 16 start)).2.2.2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, H16, ⟨%e17, H17⟩, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr
      swap; · iexact H17
      ipureintro; exact first_c c _ _ _ _ _ _ _ _ _ _ _ _ _ _ _ _ _ _ _ _ _ _ _ _ _ _ _ _ _ _ _ _ _ _ _ _ _ _ _ _ _ hc _ _ _ _ _ _ _ _ _ _ _ _ _ _ _ _ _ _ _
    isplitl [H18]
    · unfold owns; iexists _; isplitr
      swap; · iexact H18
      ipureintro; exact first_se c _ _ _ _ _ _ _ _ _ _ _ _ _ _ _ _ _ _ _ _ _ _ _ _ _ _ _ _ _ _ _ _ _ _ _ _ _ _ _ _ _ hc _ _ _ _ _ _ _ _ _ _ _ _ _ _ _ _ _ _ _
    unfold owns; iexists _; isplitr
    swap; · iexact H19
    ipureintro; exact first_wc c _ _ _ _ _ _ _ _ _ _ _ _ _ _ _ _ _ _ _ _ _ _ _ _ _ _ _ _ _ _ _ _ _ _ _ _ _ _ _ _ _ hc _ _ _ _ _ _ _ _ _ _ _ _ _ _ _ _ _ _ _
  · have hc : ¬atStart (grid0.coords t) := fun h => h0 ((atStart_iff t).mp h)
    simp only [before_17 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((laterRun c (grid0.coords t) _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (cAt m c)).2.2 _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    iintro ⟨H0, H1, H2, H3, H4, H5, H6, H7, H8, H9, H10, H11, H12, H13, H14, H15, H16, H17, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iapply (leaves_17 m c t h0); iexact H17
    isplitl [H18]
    · unfold owns; iexists _; isplitr
      swap; · iexact H18
      ipureintro; exact later_se c _ _ _ _ _ _ _ _ _ _ _ _ _ _ _ _ _ _ _ _ _ _ _ _ _ _ _ _ _ _ _ _ _ _ _ _ _ _ _ _ _ hc _ _ _ _ _ _ _ _ _ _ _ _ _ _ _ _ _ _ _ _
    unfold owns; iexists _; isplitr
    swap; · iexact H19
    ipureintro; exact later_wc c _ _ _ _ _ _ _ _ _ _ _ _ _ _ _ _ _ _ _ _ _ _ _ _ _ _ _ _ _ _ _ _ _ _ _ _ _ _ _ _ _ hc _ _ _ _ _ _ _ _ _ _ _ _ _ _ _ _ _ _ _ _

/-- The table's body at a point is the kernel's. -/
theorem body_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch runs to the end, with every array at its computed contents and no semaphore left raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arr_eq m) (hΦ := fun _ _ => rfl)

end Fused

end
-- ==== Proof.Fused.Value.lean ====
/- The fused kernel's result arrays after the run, as functions of the blocks' contents; and its frame. -/
module

public import proofs.«01_k».proof.Proof.Fused.Run
public import Idealize.ShloMosaic.Lib.Pipeline.ValueKit

@[expose] public section

set_option maxRecDepth 16384

noncomputable section

namespace Fused

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The point whose blocks hold row `i`. -/
abbrev pointOf (i : Fin 65536) : Fin cfg0.N := ⟨i.val / 2048, by rw [show cfg0.N = 32 from N_0]; have := i.isLt; omega⟩

/-- A row's place in its block. -/
abbrev placeOf (i : Fin 65536) : Fin 2048 := ⟨i.val % 2048, Nat.mod_lt _ (by decide)⟩

/-- The encodings of all rows. -/
def seWhole (c : Dev nD) : Vec F S2x65536x32 .f32 := fun j => seAt m c (pointOf (j 1)) (ix3 (j 0) (placeOf (j 1)) (j 2))

/-- The classes of all rows, a point's to a line. -/
def wcWhole (c : Dev nD) : Vec F S2x32x1x2048 .i32 := fun j =>
  wcAt m c ⟨(j 1).val, by rw [show cfg0.N = 32 from N_0]; exact (j 1).isLt⟩ (ix4 (j 0) 0 0 (j 3))

theorem index_18 : ∀ t : Fin cfg0.N, win0_18.index t = ![0, t.val, 0] := (by decide +kernel : ∀ t : Fin grid0.N, _)
theorem index_19 : ∀ t : Fin cfg0.N, win0_19.index t = ![0, t.val, 0, 0] := (by decide +kernel : ∀ t : Fin grid0.N, _)
theorem index_17 : ∀ t : Fin cfg0.N, win0_17.index t = ![0, 0] := (by decide +kernel : ∀ t : Fin grid0.N, _)

theorem seWhole_at (c : Dev nD) (t : Fin cfg0.N) (y : S2x2048x32.Idx) (j : S2x65536x32.Idx) (h0 : (j 0).val = (y 0).val)
    (h1 : (j 1).val = t.val * 2048 + (y 1).val) (h2 : (j 2).val = (y 2).val) : seWhole m c j = seAt m c t y := by
  have hy : (y 1).val < 2048 := (y 1).isLt
  have ht : pointOf (j 1) = t := Fin.ext (by show (j 1).val / 2048 = t.val; omega)
  have hj : (ix3 (j 0) (placeOf (j 1)) (j 2) : S2x2048x32.Idx) = y := by
    rw [eq_ix3 y]
    have e1 : placeOf (j 1) = y 1 := Fin.ext (by show (j 1).val % 2048 = (y 1).val; omega)
    rw [show j 0 = y 0 from Fin.ext h0, show j 2 = y 2 from Fin.ext h2, e1]
  unfold seWhole
  rw [ht, hj]

theorem wcWhole_at (c : Dev nD) (t : Fin cfg0.N) (y : S2x1x1x2048.Idx) (j : S2x32x1x2048.Idx) (h0 : (j 0).val = (y 0).val)
    (h1 : (j 1).val = t.val) (h3 : (j 3).val = (y 3).val) : wcWhole m c j = wcAt m c t y := by
  unfold wcWhole
  have ht : (⟨(j 1).val, by rw [show cfg0.N = 32 from N_0]; exact (j 1).isLt⟩ : Fin cfg0.N) = t := Fin.ext h1
  rw [ht, eq_ix4 y, show y 1 = (0 : Fin 1) from Subsingleton.elim (α := Fin 1) _ _, show y 2 = (0 : Fin 1) from Subsingleton.elim (α := Fin 1) _ _,
    show j 0 = y 0 from Fin.ext h0, show j 3 = y 3 from Fin.ext h3]

theorem arr_17 (c : Dev nD) : (dats m 0 c).arrAt 17 cfg0.N = cAt m c := by
  refine (dats m 0 c).arrAt_eq_of_covers 17 _ (by decide +kernel) fun t hf y => ?_
  blk_simp
  rw [after_17]
  refine congrArg (cAt m c) (funext fun a => Fin.ext ?_)
  blk_simp [index_17]
  fin_cases a <;> exact (Nat.zero_add _).symm.trans (congrArg (· + _) (Nat.zero_mul _).symm)

theorem arr_18 (c : Dev nD) : (dats m 0 c).arrAt 18 cfg0.N = seWhole m c := by
  refine (dats m 0 c).arrAt_eq_of_covers 18 _ (by decide +kernel) fun t hf y => ?_
  blk_simp
  rw [after_18]
  refine (seWhole_at m c t _ _ ?_ ?_ ?_).symm <;> blk_simp [index_18]

theorem arr_19 (c : Dev nD) : (dats m 0 c).arrAt 19 cfg0.N = wcWhole m c := by
  refine (dats m 0 c).arrAt_eq_of_covers 19 _ (by decide +kernel) fun t hf y => ?_
  blk_simp
  rw [after_19]
  refine (wcWhole_at m c t _ _ ?_ ?_ ?_).symm <;> blk_simp [index_19]

/-- The run, with the result arrays named. -/
theorem run_named : θ_run defs (onTc (τ := τ) (main (F := F))) ⟨m, fun _ => 0, ρ⟩ (fun r => ∀ c : Dev nD,
      r.2.mem ((c.tc : Thread nD τ).loc main_v60_0) = cAt m c
      ∧ r.2.mem ((c.tc : Thread nD τ).loc main_v60_1) = seWhole m c
      ∧ r.2.mem ((c.tc : Thread nD τ).loc main_v60_2) = wcWhole m c) :=
  (θ_run defs _ _).mono (fun r h c => ⟨((h.1 c).1 17).trans (arr_17 m c), ((h.1 c).1 18).trans (arr_18 m c), ((h.1 c).1 19).trans (arr_19 m c)⟩)
    (run_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (arr_eq m) ((θ_run defs _ _).mono (fun _ h => h.1) (run_quiescent m ρ))

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_quiescent m ρ))

end Fused

end
-- ==== Proof.Fused.Inputs.lean ====
/- The blocks that the fused kernel reads: a row block of an input, or a whole array. -/
module

public import proofs.«01_k».proof.Proof.Gen.KernelIdeal.Frame
public import Idealize.ShloMosaic.Lib.Pipeline.ValueKit

@[expose] public section

set_option maxRecDepth 16384

noncomputable section

namespace Fused

open Cert.KernelIdeal Cert.KernelIdeal.Gen Idealize.ShloMosaic Idealize.ShloMosaic.TcCoe

variable {F : FTy → Type} [FloatOps F]
variable (m : (ℓ : Loc nD τ sig) → Buf (Elt F) ℓ)

theorem index_0 : ∀ t : Fin cfg0.N, win0_0.index t = ![t.val, 0] := (by decide +kernel : ∀ t : Fin grid0.N, _)

/-- Point `t`'s block of the rows is rows `2048 t` and on. -/
theorem rows_0 (c : Dev nD) (t : Fin cfg0.N) (r : Fin 2048) (k : Fin 64) (i : Fin 65536) (hi : i.val = t.val * 2048 + r.val) :
    (iblk m c 0 t : Vec F S2048x64 .f32) (ix2 r k) = V m c main_arg0 (ix2 i k) := by
  blk_ext [iblk, index_0 t]

theorem index_1 : ∀ t : Fin cfg0.N, win0_1.index t = ![t.val, 0] := (by decide +kernel : ∀ t : Fin grid0.N, _)

/-- Point `t`'s block of the rows is rows `2048 t` and on. -/
theorem rows_1 (c : Dev nD) (t : Fin cfg0.N) (r : Fin 2048) (k : Fin 64) (i : Fin 65536) (hi : i.val = t.val * 2048 + r.val) :
    (iblk m c 1 t : Vec F S2048x64 .f32) (ix2 r k) = V m c main_arg1 (ix2 i k) := by
  blk_ext [iblk, index_1 t]

theorem index_2 : ∀ t : Fin cfg0.N, win0_2.index t = ![0, 0] := (by decide +kernel : ∀ t : Fin grid0.N, _)

theorem whole_2 (c : Dev nD) (t : Fin cfg0.N) : iblk m c 2 t = V m c main_arg2 := by
  funext y
  blk_ext [iblk, index_2 t]

theorem index_3 : ∀ t : Fin cfg0.N, win0_3.index t = ![0, 0] := (by decide +kernel : ∀ t : Fin grid0.N, _)

theorem whole_3 (c : Dev nD) (t : Fin cfg0.N) : iblk m c 3 t = V m c main_arg3 := by
  funext y
  blk_ext [iblk, index_3 t]

theorem index_4 : ∀ t : Fin cfg0.N, win0_4.index t = ![0, 0] := (by decide +kernel : ∀ t : Fin grid0.N, _)

theorem whole_4 (c : Dev nD) (t : Fin cfg0.N) : iblk m c 4 t = V m c main_arg4 := by
  funext y
  blk_ext [iblk, index_4 t]

theorem index_5 : ∀ t : Fin cfg0.N, win0_5.index t = ![0, 0] := (by decide +kernel : ∀ t : Fin grid0.N, _)

theorem whole_5 (c : Dev nD) (t : Fin cfg0.N) : iblk m c 5 t = V m c main_arg5 := by
  funext y
  blk_ext [iblk, index_5 t]

theorem index_6 : ∀ t : Fin cfg0.N, win0_6.index t = ![0, 0] := (by decide +kernel : ∀ t : Fin grid0.N, _)

theorem whole_6 (c : Dev nD) (t : Fin cfg0.N) : iblk m c 6 t = V m c main_v2 := by
  funext y
  blk_ext [iblk, index_6 t]

theorem index_7 : ∀ t : Fin cfg0.N, win0_7.index t = ![0, 0] := (by decide +kernel : ∀ t : Fin grid0.N, _)

theorem whole_7 (c : Dev nD) (t : Fin cfg0.N) : iblk m c 7 t = V m c main_v11 := by
  funext y
  blk_ext [iblk, index_7 t]

theorem index_8 : ∀ t : Fin cfg0.N, win0_8.index t = ![0, 0] := (by decide +kernel : ∀ t : Fin grid0.N, _)

theorem whole_8 (c : Dev nD) (t : Fin cfg0.N) : iblk m c 8 t = V m c main_v24 := by
  funext y
  blk_ext [iblk, index_8 t]

theorem index_9 : ∀ t : Fin cfg0.N, win0_9.index t = ![0, 0] := (by decide +kernel : ∀ t : Fin grid0.N, _)

theorem whole_9 (c : Dev nD) (t : Fin cfg0.N) : iblk m c 9 t = V m c main_v29 := by
  funext y
  blk_ext [iblk, index_9 t]

theorem index_10 : ∀ t : Fin cfg0.N, win0_10.index t = ![0, 0] := (by decide +kernel : ∀ t : Fin grid0.N, _)

theorem whole_10 (c : Dev nD) (t : Fin cfg0.N) : iblk m c 10 t = V m c main_arg12 := by
  funext y
  blk_ext [iblk, index_10 t]

theorem index_11 : ∀ t : Fin cfg0.N, win0_11.index t = ![0, 0] := (by decide +kernel : ∀ t : Fin grid0.N, _)

theorem whole_11 (c : Dev nD) (t : Fin cfg0.N) : iblk m c 11 t = V m c main_arg13 := by
  funext y
  blk_ext [iblk, index_11 t]

theorem index_12 : ∀ t : Fin cfg0.N, win0_12.index t = ![0, 0] := (by decide +kernel : ∀ t : Fin grid0.N, _)

theorem whole_12 (c : Dev nD) (t : Fin cfg0.N) : iblk m c 12 t = V m c main_arg14 := by
  funext y
  blk_ext [iblk, index_12 t]

theorem index_13 : ∀ t : Fin cfg0.N, win0_13.index t = ![0, 0] := (by decide +kernel : ∀ t : Fin grid0.N, _)

theorem whole_13 (c : Dev nD) (t : Fin cfg0.N) : iblk m c 13 t = V m c main_v32 := by
  funext y
  blk_ext [iblk, index_13 t]

theorem index_14 : ∀ t : Fin cfg0.N, win0_14.index t = ![0, 0] := (by decide +kernel : ∀ t : Fin grid0.N, _)

theorem whole_14 (c : Dev nD) (t : Fin cfg0.N) : iblk m c 14 t = V m c main_v41 := by
  funext y
  blk_ext [iblk, index_14 t]

theorem index_15 : ∀ t : Fin cfg0.N, win0_15.index t = ![0, 0] := (by decide +kernel : ∀ t : Fin grid0.N, _)

theorem whole_15 (c : Dev nD) (t : Fin cfg0.N) : iblk m c 15 t = V m c main_v54 := by
  funext y
  blk_ext [iblk, index_15 t]

theorem index_16 : ∀ t : Fin cfg0.N, win0_16.index t = ![0, 0] := (by decide +kernel : ∀ t : Fin grid0.N, _)

theorem whole_16 (c : Dev nD) (t : Fin cfg0.N) : iblk m c 16 t = V m c main_v59 := by
  funext y
  blk_ext [iblk, index_16 t]

end Fused

end
-- ==== Proof.Host.Lines.lean ====
/- A straight line of host operations in which every buffer is written once, as a system of equations: what a buffer holds at the
   end is its operation's function of what the operands hold at the end. -/
module

public import Idealize.ShloMosaic.Lib.StableHlo.RunHlo

@[expose] public section

namespace Host.Lines

open Idealize.ShloMosaic Idealize.ShloMosaic.StableHlo Idealize.ShloMosaic.TcCoe

variable {τ : Topo} {sig : RefSig} {Val : EltTy → Type}

/-- The line `ops` writes the buffers `outs`, one each, in order. -/
def Writes (ops : List (HloOp τ sig Val)) (outs : List (Ref sig .tc)) : Prop :=
  ops.map HloOp.writes = outs.map fun r => {Proc.devRef (τ := τ) .tc r}

theorem Writes.nil : Writes ([] : List (HloOp τ sig Val)) [] := rfl

theorem Writes.cons {op : HloOp τ sig Val} {ops : List (HloOp τ sig Val)} {r : Ref sig .tc} {outs : List (Ref sig .tc)}
    (hr : op.writes = {Proc.devRef (τ := τ) .tc r}) (h : Writes ops outs) : Writes (op :: ops) (r :: outs) := by
  unfold Writes at h ⊢; rw [List.map_cons, List.map_cons, h, hr]

/-- The buffers a line writes, with the proof that it does. -/
def outsOf {ops : List (HloOp τ sig Val)} {outs : List (Ref sig .tc)} (h : Writes ops outs) :
    { outs : List (Ref sig .tc) // Writes ops outs } := ⟨outs, h⟩

theorem after_append (l₁ l₂ : List (HloOp τ sig Val)) (V : Valuation τ sig Val) :
    after (l₁ ++ l₂) V = after l₂ (after l₁ V) := by
  induction l₁ generalizing V with
  | nil => rfl
  | cons op l₁ ih => exact ih _

/-- A buffer that the operations from the `k`-th on do not write is at the end as it was before the `k`-th. -/
theorem after_take {ops : List (HloOp τ sig Val)} {outs : List (Ref sig .tc)} (hW : Writes ops outs) (V : Valuation τ sig Val)
    (k : ℕ) {x : Ref sig .tc} (hx : x ∉ outs.drop k) :
    after (ops.take k) V (Proc.devRef .tc x) = after ops V (Proc.devRef .tc x) := by
  have h : Writes (ops.drop k) (outs.drop k) := by
    unfold Writes at hW ⊢; rw [List.map_drop, List.map_drop, hW]
  conv_rhs => rw [← List.take_append_drop k ops, after_append]
  exact (after_of_writes_sub _ _ (forall_writes_sub_of_map h) hx).symm

/-- The `k`-th operation's result, no later operation writing it, is at the end what that operation made of what was there before. -/
theorem after_op {ops : List (HloOp τ sig Val)} {outs : List (Ref sig .tc)} (hW : Writes ops outs) (V : Valuation τ sig Val)
    (k : ℕ) {op : HloOp τ sig Val} (hk : ops[k]? = some op) {y : Ref sig .tc} (hy : y ∉ outs.drop (k + 1)) :
    after ops V (Proc.devRef .tc y) = op.result (after (ops.take k) V) (Proc.devRef .tc y) := by
  rw [← after_take hW V (k + 1) hy, List.take_succ, hk, after_append]; rfl

section

variable {ops : List (HloOp τ sig Val)} {outs : List (Ref sig .tc)} (hW : Writes ops outs) (V : Valuation τ sig Val)
include hW

theorem eq_nullary (k : ℕ) {y : Ref sig .tc} {v : y.ty.Contents Val} {hy}
    (hk : ops[k]? = some (nullary y v hy)) (hd : y ∉ outs.drop (k + 1)) :
    after ops V (Proc.devRef .tc y) = v := by
  rw [after_op hW V k hk hd, nullary_result]

theorem eq_unary (k : ℕ) {x y : Ref sig .tc} {f : x.ty.Contents Val → y.ty.Contents Val} {hx hy}
    (hk : ops[k]? = some (unary x y f hx hy)) (hd : y ∉ outs.drop (k + 1) ∧ x ∉ outs.drop k) :
    after ops V (Proc.devRef .tc y) = f (after ops V (Proc.devRef .tc x)) := by
  rw [after_op hW V k hk hd.1, unary_result, after_take hW V k hd.2]

theorem eq_binary (k : ℕ) {a b y : Ref sig .tc} {f : a.ty.Contents Val → b.ty.Contents Val → y.ty.Contents Val} {ha hb hy}
    (hk : ops[k]? = some (binary a b y f ha hb hy)) (hd : y ∉ outs.drop (k + 1) ∧ a ∉ outs.drop k ∧ b ∉ outs.drop k) :
    after ops V (Proc.devRef .tc y) = f (after ops V (Proc.devRef .tc a)) (after ops V (Proc.devRef .tc b)) := by
  rw [after_op hW V k hk hd.1, binary_result, after_take hW V k hd.2.1, after_take hW V k hd.2.2]

theorem eq_ternary (k : ℕ) {c a b y : Ref sig .tc}
    {f : c.ty.Contents Val → a.ty.Contents Val → b.ty.Contents Val → y.ty.Contents Val} {hc ha hb hy}
    (hk : ops[k]? = some (ternary c a b y f hc ha hb hy))
    (hd : y ∉ outs.drop (k + 1) ∧ c ∉ outs.drop k ∧ a ∉ outs.drop k ∧ b ∉ outs.drop k) :
    after ops V (Proc.devRef .tc y)
      = f (after ops V (Proc.devRef .tc c)) (after ops V (Proc.devRef .tc a)) (after ops V (Proc.devRef .tc b)) := by
  rw [after_op hW V k hk hd.1, ternary_result, after_take hW V k hd.2.1, after_take hW V k hd.2.2.1, after_take hW V k hd.2.2.2]

theorem eq_quaternary (k : ℕ) {a b c e y : Ref sig .tc}
    {f : a.ty.Contents Val → b.ty.Contents Val → c.ty.Contents Val → e.ty.Contents Val → y.ty.Contents Val} {ha hb hc he hy}
    (hk : ops[k]? = some (quaternary a b c e y f ha hb hc he hy))
    (hd : y ∉ outs.drop (k + 1) ∧ a ∉ outs.drop k ∧ b ∉ outs.drop k ∧ c ∉ outs.drop k ∧ e ∉ outs.drop k) :
    after ops V (Proc.devRef .tc y)
      = f (after ops V (Proc.devRef .tc a)) (after ops V (Proc.devRef .tc b)) (after ops V (Proc.devRef .tc c))
          (after ops V (Proc.devRef .tc e)) := by
  rw [after_op hW V k hk hd.1, quaternary_result, after_take hW V k hd.2.1, after_take hW V k hd.2.2.1,
    after_take hW V k hd.2.2.2.1, after_take hW V k hd.2.2.2.2]

theorem eq_reshape (k : ℕ) {x y : Ref sig .tc} {he : x.ty.elt = y.ty.elt} {hn : x.ty.shape.ShapeCasts y.ty.shape} {hx hy}
    (hk : ops[k]? = some (reshape x y he hn hx hy)) (hd : y ∉ outs.drop (k + 1) ∧ x ∉ outs.drop k) :
    after ops V (Proc.devRef .tc y)
      = fun i => he ▸ shapeCast y.ty.shape (after ops V (Proc.devRef .tc x)) hn i := by
  rw [after_op hW V k hk hd.1, reshape_result, after_take hW V k hd.2]

/-- A buffer that no operation writes keeps its contents. -/
theorem eq_kept {x : Ref sig .tc} (hd : x ∉ outs) : after ops V (Proc.devRef .tc x) = V (Proc.devRef .tc x) :=
  after_of_writes_sub _ _ (forall_writes_sub_of_map hW) hd

end

end Host.Lines
-- ==== Proof.Host.Padded.lean ====
/- The padded weights of one modality: the weight matrices and biases set into wider arrays of zeros, with a lane that carries a one. -/
module

public import proofs.«01_k».proof.Proof.Gen.KernelIdeal.Launch
public import Idealize.ShloMosaic.Lib.Routing.OpsSet
public import Idealize.ShloMosaic.Lib.Pointwise

@[expose] public section

noncomputable section

namespace Host.Padded

open Cert.KernelIdeal Cert.KernelIdeal.Gen Idealize.ShloMosaic

/-! ## Setting a window of an array -/

section

variable {α : Type} {s si u : Shape} {w : ℕ} (d : ScatterDims s si u) (x0 : s.Idx → α) (idx : IVec si w) (upd : u.Idx → α) (ι : s.Idx)

/-- An entry at which just the update `k` lands holds that update. -/
theorem set_hit (k : u.Idx) (hk : ∀ a, d.start k idx a + (d.window k a : ℤ) = ((ι a).val : ℤ))
    (h1 : ∀ k', (∀ a, d.start k' idx a + (d.window k' a : ℤ) = ((ι a).val : ℤ)) → k' = k) :
    Host.scatter d (fun _ b => b) x0 idx upd ι = upd k :=
  Routing.scatter_set_hit d x0 idx upd ι (upd k) (fun k' h => congrArg upd (h1 k' ((Routing.resultIdx?_eq_some d k' idx ι).1 h))) k
    ((Routing.resultIdx?_eq_some d k idx ι).2 hk)

/-- An entry at which no update lands is as it was. -/
theorem set_miss (h : ∀ k, ¬∀ a, d.start k idx a + (d.window k a : ℤ) = ((ι a).val : ℤ)) :
    Host.scatter d (fun _ b => b) x0 idx upd ι = x0 ι :=
  Routing.scatter_set_miss d x0 idx upd ι fun k hk => h k ((Routing.resultIdx?_eq_some d k idx ι).1 hk)

end

/-! ## The four padded arrays -/

variable {F : FTy → Type} [FloatOps F]

/-- One index word. -/
abbrev word (a : BitVec 32) : IVec S1 32 := broadcastInDim S1 ![] bcast_S_S1 (constantI S_ 32 a)

/-- A pair of index words. -/
abbrev words (a b : BitVec 32) : IVec S2 32 := concatenate S2 0 [⟨S1, word a⟩, ⟨S1, word b⟩] concatenates_S1_S1_S2_d0

/-- Zero, and one. -/
abbrev nil : Vec F S_ .f32 := constant S_ .f32 0x00000000#32
abbrev unit : Vec F S_ .f32 := constant S_ .f32 0x3F800000#32

/-- The first layer's weights, with eight more columns of zeros. -/
def weight1 (M1 : Vec F S32x64 .f32) : Vec F S32x72 .f32 :=
  Host.scatter scatter_S32x72_S1_S32x64_01_n_1_0 (fun _ b => b) (broadcastInDim S32x72 ![] bcast_S_S32x72 nil) (word 0#32) M1

/-- The first layer's bias as a column, with a one and seven zeros below. -/
def bias1 (b1 : Vec F S64 .f32) : Vec F S72x1 .f32 :=
  Host.scatter scatter_S72x1_S2_S__n_01_01_0 (fun _ b => b)
    (Host.scatter scatter_S72x1_S2_S64_0_1_01_0 (fun _ b => b) (broadcastInDim S72x1 ![] bcast_S_S72x1 nil) (words 0#32 0#32) b1)
    (words 64#32 0#32) unit

/-- The second layer's weights, its bias as the next row, and a one where that row meets the next column. -/
def weight2 (M2 : Vec F S64x64 .f32) (b2 : Vec F S64 .f32) : Vec F S72x72 .f32 :=
  Host.scatter scatter_S72x72_S2_S__n_01_01_0 (fun _ b => b)
    (Host.scatter scatter_S72x72_S2_S64_0_0_01_0 (fun _ b => b)
      (Host.scatter scatter_S72x72_S2_S64x64_01_n_01_0 (fun _ b => b) (broadcastInDim S72x72 ![] bcast_S_S72x72 nil) (words 0#32 0#32) M2)
      (words 64#32 0#32) b2)
    (words 64#32 64#32) unit

/-- The third layer's weights, with its bias as the next row. -/
def weight3 (M3 : Vec F S64x512 .f32) (b3 : Vec F S512 .f32) : Vec F S72x512 .f32 :=
  Host.scatter scatter_S72x512_S1_S512_0_0_0_0 (fun _ b => b)
    (Host.scatter scatter_S72x512_S1_S64x512_01_n_0_0 (fun _ b => b) (broadcastInDim S72x512 ![] bcast_S_S72x512 nil) (word 0#32) M3)
    (word 64#32) b3

/-! ## Their entries -/

/-- A lane among the first 64 of 72. -/
abbrev lo (j : Fin 64) : Fin 72 := Fin.castAdd 8 j

/-- A lane among the last 8 of 72; the first of these carries the one. -/
abbrev hi (j : Fin 8) : Fin 72 := Fin.natAdd 64 j

theorem weight1_lo (M1 : Vec F S32x64 .f32) (i : Fin 32) (j : Fin 64) : weight1 M1 (ix2 i (lo j)) = M1 (ix2 i j) := by
  refine set_hit _ _ _ _ _ (ix2 i j) (fun a => ?_) fun k' h => ?_
  · match a with
    | ⟨0, _⟩ => show (0 : ℤ) + (i.val : ℤ) = i.val; omega
    | ⟨1, _⟩ => show (0 : ℤ) + (j.val : ℤ) = j.val; omega
  · have h0 : (0 : ℤ) + ((k' 0).val : ℤ) = i.val := h 0
    have h1 : (0 : ℤ) + ((k' 1).val : ℤ) = j.val := h 1
    rw [eq_ix2 k']
    exact congrArg₂ ix2 (Fin.ext (by omega)) (Fin.ext (by omega))

theorem weight1_hi (M1 : Vec F S32x64 .f32) (i : Fin 32) (j : Fin 8) : weight1 M1 (ix2 i (hi j)) = FloatOps.ofBits .f32 0x00000000#32 := by
  refine set_miss _ _ _ _ _ fun k h => ?_
  have h1 : (0 : ℤ) + ((k 1).val : ℤ) = ((64 + j.val : ℕ) : ℤ) := h 1
  have : (k 1).val < 64 := (k 1).isLt
  omega

theorem bias1_lo (b1 : Vec F S64 .f32) (j : Fin 64) : bias1 b1 (ix2 (lo j) 0) = b1 (ix1 j) := by
  refine (set_miss _ _ _ _ _ fun k h => ?_).trans (set_hit _ _ _ _ _ (ix1 j) (fun a => ?_) fun k' h => ?_)
  · have h0 : (64 : ℤ) + ((0 : ℕ) : ℤ) = j.val := h 0
    have : j.val < 64 := j.isLt
    omega
  · match a with
    | ⟨0, _⟩ => show (0 : ℤ) + (j.val : ℤ) = j.val; omega
    | ⟨1, _⟩ => rfl
  · have h0 : (0 : ℤ) + ((k' 0).val : ℤ) = j.val := h 0
    rw [eq_ix1 k']
    exact congrArg ix1 (Fin.ext (by omega))

theorem bias1_one (b1 : Vec F S64 .f32) : bias1 b1 (ix2 (hi 0) 0) = FloatOps.ofBits .f32 0x3F800000#32 := by
  refine set_hit _ _ _ _ _ ix0 (fun a => ?_) fun k' h => ?_
  · match a with
    | ⟨0, _⟩ => rfl
    | ⟨1, _⟩ => rfl
  · exact funext fun a => a.elim0

theorem weight2_lo (M2 : Vec F S64x64 .f32) (b2 : Vec F S64 .f32) (i j : Fin 64) : weight2 M2 b2 (ix2 (lo i) (lo j)) = M2 (ix2 i j) := by
  have hi : i.val < 64 := i.isLt
  refine (set_miss _ _ _ _ _ fun k h => ?_).trans ((set_miss _ _ _ _ _ fun k h => ?_).trans
    (set_hit _ _ _ _ _ (ix2 i j) (fun a => ?_) fun k' h => ?_))
  · have h0 : (64 : ℤ) + ((0 : ℕ) : ℤ) = i.val := h 0
    omega
  · have h0 : (64 : ℤ) + ((0 : ℕ) : ℤ) = i.val := h 0
    omega
  · match a with
    | ⟨0, _⟩ => show (0 : ℤ) + (i.val : ℤ) = i.val; omega
    | ⟨1, _⟩ => show (0 : ℤ) + (j.val : ℤ) = j.val; omega
  · have h0 : (0 : ℤ) + ((k' 0).val : ℤ) = i.val := h 0
    have h1 : (0 : ℤ) + ((k' 1).val : ℤ) = j.val := h 1
    rw [eq_ix2 k']
    exact congrArg₂ ix2 (Fin.ext (by omega)) (Fin.ext (by omega))

theorem weight2_bias (M2 : Vec F S64x64 .f32) (b2 : Vec F S64 .f32) (j : Fin 64) : weight2 M2 b2 (ix2 (hi 0) (lo j)) = b2 (ix1 j) := by
  refine (set_miss _ _ _ _ _ fun k h => ?_).trans (set_hit _ _ _ _ _ (ix1 j) (fun a => ?_) fun k' h => ?_)
  · have h1 : (64 : ℤ) + ((0 : ℕ) : ℤ) = j.val := h 1
    have : j.val < 64 := j.isLt
    omega
  · match a with
    | ⟨0, _⟩ => rfl
    | ⟨1, _⟩ => show (0 : ℤ) + (j.val : ℤ) = j.val; omega
  · have h0 : (0 : ℤ) + ((k' 0).val : ℤ) = j.val := h 1
    rw [eq_ix1 k']
    exact congrArg ix1 (Fin.ext (by omega))

theorem weight2_one (M2 : Vec F S64x64 .f32) (b2 : Vec F S64 .f32) :
    weight2 M2 b2 (ix2 (hi 0) (hi 0)) = FloatOps.ofBits .f32 0x3F800000#32 := by
  refine set_hit _ _ _ _ _ ix0 (fun a => ?_) fun k' h => ?_
  · match a with
    | ⟨0, _⟩ => rfl
    | ⟨1, _⟩ => rfl
  · exact funext fun a => a.elim0

/-- The column of the one is zero above it. -/
theorem weight2_above (M2 : Vec F S64x64 .f32) (b2 : Vec F S64 .f32) (i : Fin 64) :
    weight2 M2 b2 (ix2 (lo i) (hi 0)) = FloatOps.ofBits .f32 0x00000000#32 := by
  have hi : i.val < 64 := i.isLt
  refine (set_miss _ _ _ _ _ fun k h => ?_).trans ((set_miss _ _ _ _ _ fun k h => ?_).trans (set_miss _ _ _ _ _ fun k h => ?_))
  · have h0 : (64 : ℤ) + ((0 : ℕ) : ℤ) = i.val := h 0
    omega
  · have h0 : (64 : ℤ) + ((0 : ℕ) : ℤ) = i.val := h 0
    omega
  · have h1 : (0 : ℤ) + ((k 1).val : ℤ) = (64 : ℕ) := h 1
    have : (k 1).val < 64 := (k 1).isLt
    omega

/-- The rows below the bias are zero. -/
theorem weight2_below (M2 : Vec F S64x64 .f32) (b2 : Vec F S64 .f32) (i : Fin 8) (hi0 : i.val ≠ 0) (j : Fin 72) :
    weight2 M2 b2 (ix2 (hi i) j) = FloatOps.ofBits .f32 0x00000000#32 := by
  refine (set_miss _ _ _ _ _ fun k h => ?_).trans ((set_miss _ _ _ _ _ fun k h => ?_).trans (set_miss _ _ _ _ _ fun k h => ?_))
  · have h0 : (64 : ℤ) + ((0 : ℕ) : ℤ) = ((64 + i.val : ℕ) : ℤ) := h 0
    omega
  · have h0 : (64 : ℤ) + ((0 : ℕ) : ℤ) = ((64 + i.val : ℕ) : ℤ) := h 0
    omega
  · have h0 : (0 : ℤ) + ((k 0).val : ℤ) = ((64 + i.val : ℕ) : ℤ) := h 0
    have : (k 0).val < 64 := (k 0).isLt
    omega

theorem weight3_lo (M3 : Vec F S64x512 .f32) (b3 : Vec F S512 .f32) (i : Fin 64) (j : Fin 512) :
    weight3 M3 b3 (ix2 (lo i) j) = M3 (ix2 i j) := by
  refine (set_miss _ _ _ _ _ fun k h => ?_).trans (set_hit _ _ _ _ _ (ix2 i j) (fun a => ?_) fun k' h => ?_)
  · have h0 : (64 : ℤ) + ((0 : ℕ) : ℤ) = i.val := h 0
    have : i.val < 64 := i.isLt
    omega
  · match a with
    | ⟨0, _⟩ => show (0 : ℤ) + (i.val : ℤ) = i.val; omega
    | ⟨1, _⟩ => show (0 : ℤ) + (j.val : ℤ) = j.val; omega
  · have h0 : (0 : ℤ) + ((k' 0).val : ℤ) = i.val := h 0
    have h1 : (0 : ℤ) + ((k' 1).val : ℤ) = j.val := h 1
    rw [eq_ix2 k']
    exact congrArg₂ ix2 (Fin.ext (by omega)) (Fin.ext (by omega))

theorem weight3_bias (M3 : Vec F S64x512 .f32) (b3 : Vec F S512 .f32) (j : Fin 512) : weight3 M3 b3 (ix2 (hi 0) j) = b3 (ix1 j) := by
  refine set_hit _ _ _ _ _ (ix1 j) (fun a => ?_) fun k' h => ?_
  · match a with
    | ⟨0, _⟩ => rfl
    | ⟨1, _⟩ => show (0 : ℤ) + (j.val : ℤ) = j.val; omega
  · have h0 : (0 : ℤ) + ((k' 0).val : ℤ) = j.val := h 1
    rw [eq_ix1 k']
    exact congrArg ix1 (Fin.ext (by omega))

/-- The rows below the bias are zero. -/
theorem weight3_below (M3 : Vec F S64x512 .f32) (b3 : Vec F S512 .f32) (i : Fin 8) (hi0 : i.val ≠ 0) (j : Fin 512) :
    weight3 M3 b3 (ix2 (hi i) j) = FloatOps.ofBits .f32 0x00000000#32 := by
  refine (set_miss _ _ _ _ _ fun k h => ?_).trans (set_miss _ _ _ _ _ fun k h => ?_)
  · have h0 : (64 : ℤ) + ((0 : ℕ) : ℤ) = ((64 + i.val : ℕ) : ℤ) := h 0
    omega
  · have h0 : (0 : ℤ) + ((k 0).val : ℤ) = ((64 + i.val : ℕ) : ℤ) := h 0
    have : (k 0).val < 64 := (k 0).isLt
    omega

end Host.Padded
-- ==== Proof.Host.Weights.lean ====
/- What the host operations before the launch leave in the weights' buffers: the padded weights of the arguments. -/
module

public import proofs.«01_k».proof.Proof.Gen.KernelIdeal.Frame
public import proofs.«01_k».proof.Proof.Host.Lines
public import proofs.«01_k».proof.Proof.Host.Padded

@[expose] public section

set_option maxRecDepth 8192

noncomputable section

namespace Host.Weights

open Cert.KernelIdeal Cert.KernelIdeal.Gen Idealize.ShloMosaic Idealize.ShloMosaic.TcCoe Idealize.ShloMosaic.StableHlo

variable {F : FTy → Type} [FloatOps F]

/-- The buffers that the host operations write, in order. -/
def outs : List (Ref sig .tc) :=
  [main_cst, main_v0, main_c, main_v1, main_v2, main_cst_0, main_v3, main_c_1, main_v4, main_c_2, main_v5, main_v6, main_v7, main_c_3,
   main_v8, main_c_4, main_v9, main_v10, main_cst_5, main_v11, main_cst_6, main_v12, main_c_7, main_v13, main_c_8, main_v14, main_v15,
   main_v16, main_c_9, main_v17, main_c_10, main_v18, main_v19, main_v20, main_c_11, main_v21, main_c_12, main_v22, main_v23, main_cst_13,
   main_v24, main_cst_14, main_v25, main_c_15, main_v26, main_v27, main_c_16, main_v28, main_v29, main_cst_17, main_v30, main_c_18,
   main_v31, main_v32, main_cst_19, main_v33, main_c_20, main_v34, main_c_21, main_v35, main_v36, main_v37, main_c_22, main_v38, main_c_23,
   main_v39, main_v40, main_cst_24, main_v41, main_cst_25, main_v42, main_c_26, main_v43, main_c_27, main_v44, main_v45, main_v46,
   main_c_28, main_v47, main_c_29, main_v48, main_v49, main_v50, main_c_30, main_v51, main_c_31, main_v52, main_v53, main_cst_32, main_v54,
   main_cst_33, main_v55, main_c_34, main_v56, main_v57, main_c_35, main_v58, main_v59]

theorem writes : Lines.Writes (hostOps0 (F := F)) outs := by
  unfold outs
  repeat (first | exact Lines.Writes.nil | (apply Lines.Writes.cons; exact rfl))

variable (m : (ℓ : Loc nD τ sig) → Buf (Elt F) ℓ)

theorem weight1_v2 (c : Dev nD) : V m c main_v2 = Padded.weight1 (V m c main_arg6) := by
  have h0 := Lines.eq_nullary writes (fun b => m (c, b)) 0 rfl (by decide +kernel)
  have h1 := Lines.eq_unary writes (fun b => m (c, b)) 1 rfl (by decide +kernel)
  have h2 := Lines.eq_nullary writes (fun b => m (c, b)) 2 rfl (by decide +kernel)
  have h3 := Lines.eq_unary writes (fun b => m (c, b)) 3 rfl (by decide +kernel)
  have h4 := Lines.eq_ternary writes (fun b => m (c, b)) 4 rfl (by decide +kernel)
  refine h4.trans ?_
  rw [h3, h2, h1, h0]
  rfl

theorem bias1_v11 (c : Dev nD) : V m c main_v11 = Padded.bias1 (V m c main_arg7) := by
  have h5 := Lines.eq_nullary writes (fun b => m (c, b)) 5 rfl (by decide +kernel)
  have h6 := Lines.eq_unary writes (fun b => m (c, b)) 6 rfl (by decide +kernel)
  have h7 := Lines.eq_nullary writes (fun b => m (c, b)) 7 rfl (by decide +kernel)
  have h8 := Lines.eq_unary writes (fun b => m (c, b)) 8 rfl (by decide +kernel)
  have h9 := Lines.eq_nullary writes (fun b => m (c, b)) 9 rfl (by decide +kernel)
  have h10 := Lines.eq_unary writes (fun b => m (c, b)) 10 rfl (by decide +kernel)
  have h11 := Lines.eq_binary writes (fun b => m (c, b)) 11 rfl (by decide +kernel)
  have h12 := Lines.eq_ternary writes (fun b => m (c, b)) 12 rfl (by decide +kernel)
  have h13 := Lines.eq_nullary writes (fun b => m (c, b)) 13 rfl (by decide +kernel)
  have h14 := Lines.eq_unary writes (fun b => m (c, b)) 14 rfl (by decide +kernel)
  have h15 := Lines.eq_nullary writes (fun b => m (c, b)) 15 rfl (by decide +kernel)
  have h16 := Lines.eq_unary writes (fun b => m (c, b)) 16 rfl (by decide +kernel)
  have h17 := Lines.eq_binary writes (fun b => m (c, b)) 17 rfl (by decide +kernel)
  have h18 := Lines.eq_nullary writes (fun b => m (c, b)) 18 rfl (by decide +kernel)
  have h19 := Lines.eq_ternary writes (fun b => m (c, b)) 19 rfl (by decide +kernel)
  refine h19.trans ?_
  rw [h18, h17, h16, h15, h14, h13, h12, h11, h10, h9, h8, h7, h6, h5]
  rfl

theorem weight2_v24 (c : Dev nD) : V m c main_v24 = Padded.weight2 (V m c main_arg8) (V m c main_arg9) := by
  have h20 := Lines.eq_nullary writes (fun b => m (c, b)) 20 rfl (by decide +kernel)
  have h21 := Lines.eq_unary writes (fun b => m (c, b)) 21 rfl (by decide +kernel)
  have h22 := Lines.eq_nullary writes (fun b => m (c, b)) 22 rfl (by decide +kernel)
  have h23 := Lines.eq_unary writes (fun b => m (c, b)) 23 rfl (by decide +kernel)
  have h24 := Lines.eq_nullary writes (fun b => m (c, b)) 24 rfl (by decide +kernel)
  have h25 := Lines.eq_unary writes (fun b => m (c, b)) 25 rfl (by decide +kernel)
  have h26 := Lines.eq_binary writes (fun b => m (c, b)) 26 rfl (by decide +kernel)
  have h27 := Lines.eq_ternary writes (fun b => m (c, b)) 27 rfl (by decide +kernel)
  have h28 := Lines.eq_nullary writes (fun b => m (c, b)) 28 rfl (by decide +kernel)
  have h29 := Lines.eq_unary writes (fun b => m (c, b)) 29 rfl (by decide +kernel)
  have h30 := Lines.eq_nullary writes (fun b => m (c, b)) 30 rfl (by decide +kernel)
  have h31 := Lines.eq_unary writes (fun b => m (c, b)) 31 rfl (by decide +kernel)
  have h32 := Lines.eq_binary writes (fun b => m (c, b)) 32 rfl (by decide +kernel)
  have h33 := Lines.eq_ternary writes (fun b => m (c, b)) 33 rfl (by decide +kernel)
  have h34 := Lines.eq_nullary writes (fun b => m (c, b)) 34 rfl (by decide +kernel)
  have h35 := Lines.eq_unary writes (fun b => m (c, b)) 35 rfl (by decide +kernel)
  have h36 := Lines.eq_nullary writes (fun b => m (c, b)) 36 rfl (by decide +kernel)
  have h37 := Lines.eq_unary writes (fun b => m (c, b)) 37 rfl (by decide +kernel)
  have h38 := Lines.eq_binary writes (fun b => m (c, b)) 38 rfl (by decide +kernel)
  have h39 := Lines.eq_nullary writes (fun b => m (c, b)) 39 rfl (by decide +kernel)
  have h40 := Lines.eq_ternary writes (fun b => m (c, b)) 40 rfl (by decide +kernel)
  refine h40.trans ?_
  rw [h39, h38, h37, h36, h35, h34, h33, h32, h31, h30, h29, h28, h27, h26, h25, h24, h23, h22, h21, h20]
  rfl

theorem weight3_v29 (c : Dev nD) : V m c main_v29 = Padded.weight3 (V m c main_arg10) (V m c main_arg11) := by
  have h41 := Lines.eq_nullary writes (fun b => m (c, b)) 41 rfl (by decide +kernel)
  have h42 := Lines.eq_unary writes (fun b => m (c, b)) 42 rfl (by decide +kernel)
  have h43 := Lines.eq_nullary writes (fun b => m (c, b)) 43 rfl (by decide +kernel)
  have h44 := Lines.eq_unary writes (fun b => m (c, b)) 44 rfl (by decide +kernel)
  have h45 := Lines.eq_ternary writes (fun b => m (c, b)) 45 rfl (by decide +kernel)
  have h46 := Lines.eq_nullary writes (fun b => m (c, b)) 46 rfl (by decide +kernel)
  have h47 := Lines.eq_unary writes (fun b => m (c, b)) 47 rfl (by decide +kernel)
  have h48 := Lines.eq_ternary writes (fun b => m (c, b)) 48 rfl (by decide +kernel)
  refine h48.trans ?_
  rw [h47, h46, h45, h44, h43, h42, h41]
  rfl

theorem weight1_v32 (c : Dev nD) : V m c main_v32 = Padded.weight1 (V m c main_arg15) := by
  have h49 := Lines.eq_nullary writes (fun b => m (c, b)) 49 rfl (by decide +kernel)
  have h50 := Lines.eq_unary writes (fun b => m (c, b)) 50 rfl (by decide +kernel)
  have h51 := Lines.eq_nullary writes (fun b => m (c, b)) 51 rfl (by decide +kernel)
  have h52 := Lines.eq_unary writes (fun b => m (c, b)) 52 rfl (by decide +kernel)
  have h53 := Lines.eq_ternary writes (fun b => m (c, b)) 53 rfl (by decide +kernel)
  refine h53.trans ?_
  rw [h52, h51, h50, h49]
  rfl

theorem bias1_v41 (c : Dev nD) : V m c main_v41 = Padded.bias1 (V m c main_arg16) := by
  have h54 := Lines.eq_nullary writes (fun b => m (c, b)) 54 rfl (by decide +kernel)
  have h55 := Lines.eq_unary writes (fun b => m (c, b)) 55 rfl (by decide +kernel)
  have h56 := Lines.eq_nullary writes (fun b => m (c, b)) 56 rfl (by decide +kernel)
  have h57 := Lines.eq_unary writes (fun b => m (c, b)) 57 rfl (by decide +kernel)
  have h58 := Lines.eq_nullary writes (fun b => m (c, b)) 58 rfl (by decide +kernel)
  have h59 := Lines.eq_unary writes (fun b => m (c, b)) 59 rfl (by decide +kernel)
  have h60 := Lines.eq_binary writes (fun b => m (c, b)) 60 rfl (by decide +kernel)
  have h61 := Lines.eq_ternary writes (fun b => m (c, b)) 61 rfl (by decide +kernel)
  have h62 := Lines.eq_nullary writes (fun b => m (c, b)) 62 rfl (by decide +kernel)
  have h63 := Lines.eq_unary writes (fun b => m (c, b)) 63 rfl (by decide +kernel)
  have h64 := Lines.eq_nullary writes (fun b => m (c, b)) 64 rfl (by decide +kernel)
  have h65 := Lines.eq_unary writes (fun b => m (c, b)) 65 rfl (by decide +kernel)
  have h66 := Lines.eq_binary writes (fun b => m (c, b)) 66 rfl (by decide +kernel)
  have h67 := Lines.eq_nullary writes (fun b => m (c, b)) 67 rfl (by decide +kernel)
  have h68 := Lines.eq_ternary writes (fun b => m (c, b)) 68 rfl (by decide +kernel)
  refine h68.trans ?_
  rw [h67, h66, h65, h64, h63, h62, h61, h60, h59, h58, h57, h56, h55, h54]
  rfl

theorem weight2_v54 (c : Dev nD) : V m c main_v54 = Padded.weight2 (V m c main_arg17) (V m c main_arg18) := by
  have h69 := Lines.eq_nullary writes (fun b => m (c, b)) 69 rfl (by decide +kernel)
  have h70 := Lines.eq_unary writes (fun b => m (c, b)) 70 rfl (by decide +kernel)
  have h71 := Lines.eq_nullary writes (fun b => m (c, b)) 71 rfl (by decide +kernel)
  have h72 := Lines.eq_unary writes (fun b => m (c, b)) 72 rfl (by decide +kernel)
  have h73 := Lines.eq_nullary writes (fun b => m (c, b)) 73 rfl (by decide +kernel)
  have h74 := Lines.eq_unary writes (fun b => m (c, b)) 74 rfl (by decide +kernel)
  have h75 := Lines.eq_binary writes (fun b => m (c, b)) 75 rfl (by decide +kernel)
  have h76 := Lines.eq_ternary writes (fun b => m (c, b)) 76 rfl (by decide +kernel)
  have h77 := Lines.eq_nullary writes (fun b => m (c, b)) 77 rfl (by decide +kernel)
  have h78 := Lines.eq_unary writes (fun b => m (c, b)) 78 rfl (by decide +kernel)
  have h79 := Lines.eq_nullary writes (fun b => m (c, b)) 79 rfl (by decide +kernel)
  have h80 := Lines.eq_unary writes (fun b => m (c, b)) 80 rfl (by decide +kernel)
  have h81 := Lines.eq_binary writes (fun b => m (c, b)) 81 rfl (by decide +kernel)
  have h82 := Lines.eq_ternary writes (fun b => m (c, b)) 82 rfl (by decide +kernel)
  have h83 := Lines.eq_nullary writes (fun b => m (c, b)) 83 rfl (by decide +kernel)
  have h84 := Lines.eq_unary writes (fun b => m (c, b)) 84 rfl (by decide +kernel)
  have h85 := Lines.eq_nullary writes (fun b => m (c, b)) 85 rfl (by decide +kernel)
  have h86 := Lines.eq_unary writes (fun b => m (c, b)) 86 rfl (by decide +kernel)
  have h87 := Lines.eq_binary writes (fun b => m (c, b)) 87 rfl (by decide +kernel)
  have h88 := Lines.eq_nullary writes (fun b => m (c, b)) 88 rfl (by decide +kernel)
  have h89 := Lines.eq_ternary writes (fun b => m (c, b)) 89 rfl (by decide +kernel)
  refine h89.trans ?_
  rw [h88, h87, h86, h85, h84, h83, h82, h81, h80, h79, h78, h77, h76, h75, h74, h73, h72, h71, h70, h69]
  rfl

theorem weight3_v59 (c : Dev nD) : V m c main_v59 = Padded.weight3 (V m c main_arg19) (V m c main_arg20) := by
  have h90 := Lines.eq_nullary writes (fun b => m (c, b)) 90 rfl (by decide +kernel)
  have h91 := Lines.eq_unary writes (fun b => m (c, b)) 91 rfl (by decide +kernel)
  have h92 := Lines.eq_nullary writes (fun b => m (c, b)) 92 rfl (by decide +kernel)
  have h93 := Lines.eq_unary writes (fun b => m (c, b)) 93 rfl (by decide +kernel)
  have h94 := Lines.eq_ternary writes (fun b => m (c, b)) 94 rfl (by decide +kernel)
  have h95 := Lines.eq_nullary writes (fun b => m (c, b)) 95 rfl (by decide +kernel)
  have h96 := Lines.eq_unary writes (fun b => m (c, b)) 96 rfl (by decide +kernel)
  have h97 := Lines.eq_ternary writes (fun b => m (c, b)) 97 rfl (by decide +kernel)
  refine h97.trans ?_
  rw [h96, h95, h94, h93, h92, h91, h90]
  rfl

end Host.Weights

end
-- ==== Proof.Host.Reference.lean ====
/- The reference's straight line of host operations, and what each of its stages leaves: both modalities through the same functions. -/
module

public import proofs.«01_k».proof.Proof.Gen.ReferenceIdeal
public import proofs.«01_k».proof.Proof.Host.Lines
public import Idealize.ShloMosaic.Lib.Claim

@[expose] public section

set_option maxRecDepth 8192

noncomputable section

namespace Host.Reference

open Cert.ReferenceIdeal Cert.ReferenceIdeal.Gen Idealize.ShloMosaic Idealize.ShloMosaic.TcCoe Idealize.SL.Sem Idealize.ShloMosaic.StableHlo

variable {F : FTy → Type} [FloatOps F]

/-! ## The stages -/

section

/-- The encodings: three layers, each a product with its weights and a hyperbolic tangent. -/
def encode (x : Vec F S65536x64 .f32) (W1 W2 : Vec F S64x64 .f32) (W3 : Vec F S64x32 .f32) : Vec F S65536x32 .f32 :=
  Host.tanh (Host.dotGeneral dot_S65536x64_S64x32_S65536x32_1_0_0_1_n_n none
    (Host.tanh (Host.dotGeneral dot_S65536x64_S64x64_S65536x64_1_0_0_1_n_n none
      (Host.tanh (Host.dotGeneral dot_S65536x64_S64x64_S65536x64_1_0_0_1_n_n none x W1)) W2)) W3)

/-- A bias on every row. -/
def bias64 (b : Vec F S64 .f32) : Vec F S65536x64 .f32 :=
  broadcastInDim S65536x64 ![0, 1] bcast_S1x64_S65536x64_0_1 (broadcastInDim S1x64 ![1] bcast_S64_S1x64_1 b)

def bias512 (b : Vec F S512 .f32) : Vec F S65536x512 .f32 :=
  broadcastInDim S65536x512 ![0, 1] bcast_S1x512_S65536x512_0_1 (broadcastInDim S1x512 ![1] bcast_S512_S1x512_1 b)

/-- The leaky rectifier: a tenth of what is negative. -/
def leaky64 (z : Vec F S65536x64 .f32) : Vec F S65536x64 .f32 :=
  select (cmpf .oge z (broadcastInDim S65536x64 ![] bcast_S_S65536x64 (constant S_ .f32 0x00000000#32))) z
    (mulf (broadcastInDim S65536x64 ![] bcast_S_S65536x64 (constant S_ .f32 0x3DCCCCCD#32)) z)

def leaky512 (z : Vec F S65536x512 .f32) : Vec F S65536x512 .f32 :=
  select (cmpf .oge z (broadcastInDim S65536x512 ![] bcast_S_S65536x512 (constant S_ .f32 0x00000000#32))) z
    (mulf (broadcastInDim S65536x512 ![] bcast_S_S65536x512 (constant S_ .f32 0x3DCCCCCD#32)) z)

def layer1 (s : Vec F S65536x32 .f32) (M : Vec F S32x64 .f32) (b : Vec F S64 .f32) : Vec F S65536x64 .f32 :=
  leaky64 (addf (Host.dotGeneral dot_S65536x32_S32x64_S65536x64_1_0_0_1_n_n none s M) (bias64 b))

def layer2 (s : Vec F S65536x64 .f32) (M : Vec F S64x64 .f32) (b : Vec F S64 .f32) : Vec F S65536x64 .f32 :=
  leaky64 (addf (Host.dotGeneral dot_S65536x64_S64x64_S65536x64_1_0_0_1_n_n none s M) (bias64 b))

def layer3 (s : Vec F S65536x64 .f32) (M : Vec F S64x512 .f32) (b : Vec F S512 .f32) : Vec F S65536x512 .f32 :=
  leaky512 (addf (Host.dotGeneral dot_S65536x64_S64x512_S65536x512_1_0_0_1_n_n none s M) (bias512 b))

/-- A value per row, on the whole row. -/
def spread (v : Vec F S65536 .f32) : Vec F S65536x512 .f32 :=
  broadcastInDim S65536x512 ![0, 1] bcast_S65536x1_S65536x512_0_1 (broadcastInDim S65536x1 ![0] bcast_S65536_S65536x1_0 v)

/-- The greatest entry of each row. -/
def greatest (z : Vec F S65536x512 .f32) : Vec F S65536 .f32 :=
  Host.reduce FloatOps.maximumf z (constant S_ .f32 0xFF800000#32) reducesTo_S65536x512_S65536_d1 h_S_

/-- The exponentials of a row's distances from its greatest entry. -/
def weights (z : Vec F S65536x512 .f32) : Vec F S65536x512 .f32 :=
  Host.exp (subf z (spread (maximumf (broadcastInDim S65536 ![] bcast_S_S65536 (constant S_ .f32 0xFF800000#32)) (greatest z))))

def softmax (z : Vec F S65536x512 .f32) : Vec F S65536x512 .f32 :=
  Host.divf (weights z) (spread (Host.reduceAdd (weights z) (constant S_ .f32 0x00000000#32) reducesTo_S65536x512_S65536_d1 h_S_))

/-- The distribution over the classes that a modality's encodings get. -/
def dist (s : Vec F S65536x32 .f32) (M1 : Vec F S32x64 .f32) (b1 : Vec F S64 .f32) (M2 : Vec F S64x64 .f32) (b2 : Vec F S64 .f32)
    (M3 : Vec F S64x512 .f32) (b3 : Vec F S512 .f32) : Vec F S65536x512 .f32 :=
  softmax (layer3 (layer2 (layer1 s M1 b1) M2 b2) M3 b3)

/-- The index that the search along each row of a matrix ends at. -/
def chosen {n m : Nat} {u : Shape} (d : Vec F ⟨2, ![n, m]⟩ .f32) (h : (⟨2, ![n, m]⟩ : Shape).ReducesTo [1] ⟨1, ![n]⟩) (hu : 0 < u.numel) :
    Vec F ⟨1, ![n]⟩ .i32 := fun j =>
  (Host.argReduce reducer_argmax_f32_i32 d (iotaInDim ⟨2, ![n, m]⟩ 32 1) (constant u .f32 0xFF800000#32) (constantI u 32 0#32) h hu j).2

/-- The class of each row: where its distribution is greatest. -/
def class_ (d : Vec F S65536x512 .f32) : Vec F S65536 .i32 := chosen d reducesTo_S65536x512_S65536_d1 h_S_

/-- Two modalities' encodings one above the other, then as a stack of two. -/
def stackEncodings (a b : Vec F S65536x32 .f32) : Vec F S2x65536x32 .f32 :=
  shapeCast S2x65536x32 (concatenate S131072x32 0 [⟨S65536x32, a⟩, ⟨S65536x32, b⟩] concatenates_S65536x32_S65536x32_S131072x32_d0)
    shapeCasts_S131072x32_S2x65536x32

/-- Two modalities' classes one after the other, then in lines of 2048. -/
def stackClasses (a b : Vec F S65536 .i32) : Vec F S2x32x1x2048 .i32 :=
  shapeCast S2x32x1x2048 (concatenate S131072 0 [⟨S65536, a⟩, ⟨S65536, b⟩] concatenates_S65536_S65536_S131072_d0)
    shapeCasts_S131072_S2x32x1x2048

end

/-! ## The line -/

/-- A program with the list of operations it is the line of. -/
def lineOf {p : Dev nD → Prog (TpuEff nD τ sig (Elt F) (Pipeline.Sig Λ₀ (Fin 0) fun p => (pcfgs (F := F) p).Adm) .tc) PUnit}
    {ops : List (HloOp τ sig (Elt F))} (h : ∀ d, IsSeq (p d) ops) : { ops : List (HloOp τ sig (Elt F)) // ∀ d, IsSeq (p d) ops } := ⟨ops, h⟩

/-- The reference's operations. -/
def line : { ops : List (HloOp τ sig (Elt F)) // ∀ d, IsSeq (main (F := F) d) ops } := by
  apply lineOf
  hlo_seq

/-- The buffers that they write, in order. -/
def outs : List (Ref sig .tc) :=
  [main_v0, main_v1, main_v2, main_v3, main_v4, main_v5, main_v6, main_v7, main_v8, main_v9, main_v10, main_cst, main_v11, main_v12,
   main_cst_0, main_v13, main_v14, main_v15, main_v16, main_v17, main_v18, main_v19, main_cst_1, main_v20, main_v21, main_cst_2, main_v22,
   main_v23, main_v24, main_v25, main_v26, main_v27, main_v28, main_cst_3, main_v29, main_v30, main_cst_4, main_v31, main_v32, main_v33,
   main_cst_5, main_v34, main_cst_6, main_v35, main_v36, main_v37, main_v38, main_v39, main_v40, main_cst_7, main_v41, main_v42, main_v43,
   main_v44, main_v45, main_v46, main_v47, main_v48, main_v49, main_v50, main_v51, main_v52, main_v53, main_v54, main_cst_8, main_v55,
   main_v56, main_cst_9, main_v57, main_v58, main_v59, main_v60, main_v61, main_v62, main_v63, main_cst_10, main_v64, main_v65,
   main_cst_11, main_v66, main_v67, main_v68, main_v69, main_v70, main_v71, main_v72, main_cst_12, main_v73, main_v74, main_cst_13,
   main_v75, main_v76, main_v77, main_cst_14, main_v78, main_cst_15, main_v79, main_v80, main_v81, main_v82, main_v83, main_v84,
   main_cst_16, main_v85, main_v86, main_v87, main_v88, main_call6_v0, main_call6_cst, main_call6_c, main_call6_v1_0, main_v89,
   main_call7_v0, main_call7_cst, main_call7_c, main_call7_v1_0, main_v90, main_v91, main_v92, main_v93, main_v94]

theorem writes : Lines.Writes (line (F := F)).1 outs := by
  unfold line lineOf outs
  repeat (first | exact Lines.Writes.nil | (apply Lines.Writes.cons; exact rfl))

/-! ## What the stages leave -/

variable (V : Valuation τ sig (Elt F))

/-- What a buffer holds at the end. -/
abbrev after_ (b : Ref sig .tc) : b.ty.Contents (Elt F) := after (line (F := F)).1 V (Proc.devRef .tc b)

theorem centroids : after_ V main_v0 = Host.tanh (after_ V main_arg2) := by
  have h0 := Lines.eq_unary writes V 0 rfl (by decide +kernel)
  refine h0.trans ?_
  rfl

theorem encode_text : after_ V main_v6 = encode (after_ V main_arg0) (after_ V main_arg3) (after_ V main_arg4) (after_ V main_arg5) := by
  have h1 := Lines.eq_binary writes V 1 rfl (by decide +kernel)
  have h2 := Lines.eq_unary writes V 2 rfl (by decide +kernel)
  have h3 := Lines.eq_binary writes V 3 rfl (by decide +kernel)
  have h4 := Lines.eq_unary writes V 4 rfl (by decide +kernel)
  have h5 := Lines.eq_binary writes V 5 rfl (by decide +kernel)
  have h6 := Lines.eq_unary writes V 6 rfl (by decide +kernel)
  refine h6.trans ?_
  rw [h5, h4, h3, h2, h1]
  rfl

theorem layer1_text : after_ V main_v15 = layer1 (after_ V main_v6) (after_ V main_arg6) (after_ V main_arg7) := by
  have h7 := Lines.eq_binary writes V 7 rfl (by decide +kernel)
  have h8 := Lines.eq_unary writes V 8 rfl (by decide +kernel)
  have h9 := Lines.eq_unary writes V 9 rfl (by decide +kernel)
  have h10 := Lines.eq_binary writes V 10 rfl (by decide +kernel)
  have h11 := Lines.eq_nullary writes V 11 rfl (by decide +kernel)
  have h12 := Lines.eq_unary writes V 12 rfl (by decide +kernel)
  have h13 := Lines.eq_binary writes V 13 rfl (by decide +kernel)
  have h14 := Lines.eq_nullary writes V 14 rfl (by decide +kernel)
  have h15 := Lines.eq_unary writes V 15 rfl (by decide +kernel)
  have h16 := Lines.eq_binary writes V 16 rfl (by decide +kernel)
  have h17 := Lines.eq_ternary writes V 17 rfl (by decide +kernel)
  refine h17.trans ?_
  rw [h16, h15, h14, h13, h12, h11, h10, h9, h8, h7]
  rfl

theorem layer2_text : after_ V main_v24 = layer2 (after_ V main_v15) (after_ V main_arg8) (after_ V main_arg9) := by
  have h18 := Lines.eq_binary writes V 18 rfl (by decide +kernel)
  have h19 := Lines.eq_unary writes V 19 rfl (by decide +kernel)
  have h20 := Lines.eq_unary writes V 20 rfl (by decide +kernel)
  have h21 := Lines.eq_binary writes V 21 rfl (by decide +kernel)
  have h22 := Lines.eq_nullary writes V 22 rfl (by decide +kernel)
  have h23 := Lines.eq_unary writes V 23 rfl (by decide +kernel)
  have h24 := Lines.eq_binary writes V 24 rfl (by decide +kernel)
  have h25 := Lines.eq_nullary writes V 25 rfl (by decide +kernel)
  have h26 := Lines.eq_unary writes V 26 rfl (by decide +kernel)
  have h27 := Lines.eq_binary writes V 27 rfl (by decide +kernel)
  have h28 := Lines.eq_ternary writes V 28 rfl (by decide +kernel)
  refine h28.trans ?_
  rw [h27, h26, h25, h24, h23, h22, h21, h20, h19, h18]
  rfl

theorem layer3_text : after_ V main_v33 = layer3 (after_ V main_v24) (after_ V main_arg10) (after_ V main_arg11) := by
  have h29 := Lines.eq_binary writes V 29 rfl (by decide +kernel)
  have h30 := Lines.eq_unary writes V 30 rfl (by decide +kernel)
  have h31 := Lines.eq_unary writes V 31 rfl (by decide +kernel)
  have h32 := Lines.eq_binary writes V 32 rfl (by decide +kernel)
  have h33 := Lines.eq_nullary writes V 33 rfl (by decide +kernel)
  have h34 := Lines.eq_unary writes V 34 rfl (by decide +kernel)
  have h35 := Lines.eq_binary writes V 35 rfl (by decide +kernel)
  have h36 := Lines.eq_nullary writes V 36 rfl (by decide +kernel)
  have h37 := Lines.eq_unary writes V 37 rfl (by decide +kernel)
  have h38 := Lines.eq_binary writes V 38 rfl (by decide +kernel)
  have h39 := Lines.eq_ternary writes V 39 rfl (by decide +kernel)
  refine h39.trans ?_
  rw [h38, h37, h36, h35, h34, h33, h32, h31, h30, h29]
  rfl

theorem softmax_text : after_ V main_v44 = softmax (after_ V main_v33) := by
  have h40 := Lines.eq_nullary writes V 40 rfl (by decide +kernel)
  have h41 := Lines.eq_binary writes V 41 rfl (by decide +kernel)
  have h42 := Lines.eq_nullary writes V 42 rfl (by decide +kernel)
  have h43 := Lines.eq_unary writes V 43 rfl (by decide +kernel)
  have h44 := Lines.eq_binary writes V 44 rfl (by decide +kernel)
  have h45 := Lines.eq_unary writes V 45 rfl (by decide +kernel)
  have h46 := Lines.eq_unary writes V 46 rfl (by decide +kernel)
  have h47 := Lines.eq_binary writes V 47 rfl (by decide +kernel)
  have h48 := Lines.eq_unary writes V 48 rfl (by decide +kernel)
  have h49 := Lines.eq_nullary writes V 49 rfl (by decide +kernel)
  have h50 := Lines.eq_binary writes V 50 rfl (by decide +kernel)
  have h51 := Lines.eq_unary writes V 51 rfl (by decide +kernel)
  have h52 := Lines.eq_unary writes V 52 rfl (by decide +kernel)
  have h53 := Lines.eq_binary writes V 53 rfl (by decide +kernel)
  refine h53.trans ?_
  rw [h52, h51, h50, h49, h48, h47, h46, h45, h44, h43, h42, h41, h40]
  rfl

theorem class_text : after_ V main_v89 = class_ (after_ V main_v44) := by
  have h107 := Lines.eq_nullary writes V 107 rfl (by decide +kernel)
  have h108 := Lines.eq_nullary writes V 108 rfl (by decide +kernel)
  have h109 := Lines.eq_nullary writes V 109 rfl (by decide +kernel)
  have h111 := Lines.eq_quaternary writes V 111 rfl (by decide +kernel)
  refine h111.trans ?_
  rw [h109, h108, h107]
  rfl

theorem encode_image : after_ V main_v50 = encode (after_ V main_arg1) (after_ V main_arg12) (after_ V main_arg13) (after_ V main_arg14) := by
  have h54 := Lines.eq_binary writes V 54 rfl (by decide +kernel)
  have h55 := Lines.eq_unary writes V 55 rfl (by decide +kernel)
  have h56 := Lines.eq_binary writes V 56 rfl (by decide +kernel)
  have h57 := Lines.eq_unary writes V 57 rfl (by decide +kernel)
  have h58 := Lines.eq_binary writes V 58 rfl (by decide +kernel)
  have h59 := Lines.eq_unary writes V 59 rfl (by decide +kernel)
  refine h59.trans ?_
  rw [h58, h57, h56, h55, h54]
  rfl

theorem layer1_image : after_ V main_v59 = layer1 (after_ V main_v50) (after_ V main_arg15) (after_ V main_arg16) := by
  have h60 := Lines.eq_binary writes V 60 rfl (by decide +kernel)
  have h61 := Lines.eq_unary writes V 61 rfl (by decide +kernel)
  have h62 := Lines.eq_unary writes V 62 rfl (by decide +kernel)
  have h63 := Lines.eq_binary writes V 63 rfl (by decide +kernel)
  have h64 := Lines.eq_nullary writes V 64 rfl (by decide +kernel)
  have h65 := Lines.eq_unary writes V 65 rfl (by decide +kernel)
  have h66 := Lines.eq_binary writes V 66 rfl (by decide +kernel)
  have h67 := Lines.eq_nullary writes V 67 rfl (by decide +kernel)
  have h68 := Lines.eq_unary writes V 68 rfl (by decide +kernel)
  have h69 := Lines.eq_binary writes V 69 rfl (by decide +kernel)
  have h70 := Lines.eq_ternary writes V 70 rfl (by decide +kernel)
  refine h70.trans ?_
  rw [h69, h68, h67, h66, h65, h64, h63, h62, h61, h60]
  rfl

theorem layer2_image : after_ V main_v68 = layer2 (after_ V main_v59) (after_ V main_arg17) (after_ V main_arg18) := by
  have h71 := Lines.eq_binary writes V 71 rfl (by decide +kernel)
  have h72 := Lines.eq_unary writes V 72 rfl (by decide +kernel)
  have h73 := Lines.eq_unary writes V 73 rfl (by decide +kernel)
  have h74 := Lines.eq_binary writes V 74 rfl (by decide +kernel)
  have h75 := Lines.eq_nullary writes V 75 rfl (by decide +kernel)
  have h76 := Lines.eq_unary writes V 76 rfl (by decide +kernel)
  have h77 := Lines.eq_binary writes V 77 rfl (by decide +kernel)
  have h78 := Lines.eq_nullary writes V 78 rfl (by decide +kernel)
  have h79 := Lines.eq_unary writes V 79 rfl (by decide +kernel)
  have h80 := Lines.eq_binary writes V 80 rfl (by decide +kernel)
  have h81 := Lines.eq_ternary writes V 81 rfl (by decide +kernel)
  refine h81.trans ?_
  rw [h80, h79, h78, h77, h76, h75, h74, h73, h72, h71]
  rfl

theorem layer3_image : after_ V main_v77 = layer3 (after_ V main_v68) (after_ V main_arg19) (after_ V main_arg20) := by
  have h82 := Lines.eq_binary writes V 82 rfl (by decide +kernel)
  have h83 := Lines.eq_unary writes V 83 rfl (by decide +kernel)
  have h84 := Lines.eq_unary writes V 84 rfl (by decide +kernel)
  have h85 := Lines.eq_binary writes V 85 rfl (by decide +kernel)
  have h86 := Lines.eq_nullary writes V 86 rfl (by decide +kernel)
  have h87 := Lines.eq_unary writes V 87 rfl (by decide +kernel)
  have h88 := Lines.eq_binary writes V 88 rfl (by decide +kernel)
  have h89 := Lines.eq_nullary writes V 89 rfl (by decide +kernel)
  have h90 := Lines.eq_unary writes V 90 rfl (by decide +kernel)
  have h91 := Lines.eq_binary writes V 91 rfl (by decide +kernel)
  have h92 := Lines.eq_ternary writes V 92 rfl (by decide +kernel)
  refine h92.trans ?_
  rw [h91, h90, h89, h88, h87, h86, h85, h84, h83, h82]
  rfl

theorem softmax_image : after_ V main_v88 = softmax (after_ V main_v77) := by
  have h93 := Lines.eq_nullary writes V 93 rfl (by decide +kernel)
  have h94 := Lines.eq_binary writes V 94 rfl (by decide +kernel)
  have h95 := Lines.eq_nullary writes V 95 rfl (by decide +kernel)
  have h96 := Lines.eq_unary writes V 96 rfl (by decide +kernel)
  have h97 := Lines.eq_binary writes V 97 rfl (by decide +kernel)
  have h98 := Lines.eq_unary writes V 98 rfl (by decide +kernel)
  have h99 := Lines.eq_unary writes V 99 rfl (by decide +kernel)
  have h100 := Lines.eq_binary writes V 100 rfl (by decide +kernel)
  have h101 := Lines.eq_unary writes V 101 rfl (by decide +kernel)
  have h102 := Lines.eq_nullary writes V 102 rfl (by decide +kernel)
  have h103 := Lines.eq_binary writes V 103 rfl (by decide +kernel)
  have h104 := Lines.eq_unary writes V 104 rfl (by decide +kernel)
  have h105 := Lines.eq_unary writes V 105 rfl (by decide +kernel)
  have h106 := Lines.eq_binary writes V 106 rfl (by decide +kernel)
  refine h106.trans ?_
  rw [h105, h104, h103, h102, h101, h100, h99, h98, h97, h96, h95, h94, h93]
  rfl

theorem class_image : after_ V main_v90 = class_ (after_ V main_v88) := by
  have h112 := Lines.eq_nullary writes V 112 rfl (by decide +kernel)
  have h113 := Lines.eq_nullary writes V 113 rfl (by decide +kernel)
  have h114 := Lines.eq_nullary writes V 114 rfl (by decide +kernel)
  have h116 := Lines.eq_quaternary writes V 116 rfl (by decide +kernel)
  refine h116.trans ?_
  rw [h114, h113, h112]
  rfl

theorem stack_encodings : after_ V main_v93 = stackEncodings (after_ V main_v6) (after_ V main_v50) := by
  have h117 := Lines.eq_binary writes V 117 rfl (by decide +kernel)
  have h119 := Lines.eq_reshape writes V 119 rfl (by decide +kernel)
  refine h119.trans ?_
  rw [h117]
  rfl

theorem stack_classes : after_ V main_v94 = stackClasses (after_ V main_v89) (after_ V main_v90) := by
  have h118 := Lines.eq_binary writes V 118 rfl (by decide +kernel)
  have h120 := Lines.eq_reshape writes V 120 rfl (by decide +kernel)
  refine h120.trans ?_
  rw [h118]
  rfl

/-- An argument is as it began. -/
theorem kept {b : Ref sig .tc} (h : b ∉ outs) : after_ V b = V (Proc.devRef .tc b) := Lines.eq_kept writes V h

end Host.Reference

end
-- ==== Proof.Host.Results.lean ====
/- The reference's results: each of the three arrays as one expression in the arguments, and its run. -/
module

public import proofs.«01_k».proof.Proof.Host.Reference
public import Idealize.ShloMosaic.Lib.Quiescent

@[expose] public section

set_option maxRecDepth 8192

noncomputable section

namespace Host.Reference

open Cert.ReferenceIdeal Cert.ReferenceIdeal.Gen Idealize.ShloMosaic Idealize.ShloMosaic.TcCoe Idealize.SL.Sem Idealize.ShloMosaic.StableHlo

variable {F : FTy → Type} [FloatOps F]

section

variable (V : Valuation τ sig (Elt F))

/-- What an array holds at the start. -/
abbrev before_ (b : Ref sig .tc) : b.ty.Contents (Elt F) := V (Proc.devRef .tc b)

theorem result_c : after_ V main_v0 = Host.tanh (before_ V main_arg2) := by
  rw [centroids, kept V (b := main_arg2) (by decide +kernel)]

theorem encoded_text : after_ V main_v6 = encode (before_ V main_arg0) (before_ V main_arg3) (before_ V main_arg4) (before_ V main_arg5) := by
  rw [encode_text, kept V (b := main_arg0) (by decide +kernel), kept V (b := main_arg3) (by decide +kernel), kept V (b := main_arg4) (by decide +kernel), kept V (b := main_arg5) (by decide +kernel)]

theorem chosen_text : after_ V main_v89
    = class_ (dist (encode (before_ V main_arg0) (before_ V main_arg3) (before_ V main_arg4) (before_ V main_arg5)) (before_ V main_arg6) (before_ V main_arg7) (before_ V main_arg8) (before_ V main_arg9) (before_ V main_arg10) (before_ V main_arg11)) := by
  unfold dist
  rw [class_text, softmax_text, layer3_text, layer2_text, layer1_text, encoded_text,
    kept V (b := main_arg6) (by decide +kernel), kept V (b := main_arg7) (by decide +kernel), kept V (b := main_arg8) (by decide +kernel), kept V (b := main_arg9) (by decide +kernel), kept V (b := main_arg10) (by decide +kernel), kept V (b := main_arg11) (by decide +kernel)]

theorem encoded_image : after_ V main_v50 = encode (before_ V main_arg1) (before_ V main_arg12) (before_ V main_arg13) (before_ V main_arg14) := by
  rw [encode_image, kept V (b := main_arg1) (by decide +kernel), kept V (b := main_arg12) (by decide +kernel), kept V (b := main_arg13) (by decide +kernel), kept V (b := main_arg14) (by decide +kernel)]

theorem chosen_image : after_ V main_v90
    = class_ (dist (encode (before_ V main_arg1) (before_ V main_arg12) (before_ V main_arg13) (before_ V main_arg14)) (before_ V main_arg15) (before_ V main_arg16) (before_ V main_arg17) (before_ V main_arg18) (before_ V main_arg19) (before_ V main_arg20)) := by
  unfold dist
  rw [class_image, softmax_image, layer3_image, layer2_image, layer1_image, encoded_image,
    kept V (b := main_arg15) (by decide +kernel), kept V (b := main_arg16) (by decide +kernel), kept V (b := main_arg17) (by decide +kernel), kept V (b := main_arg18) (by decide +kernel), kept V (b := main_arg19) (by decide +kernel), kept V (b := main_arg20) (by decide +kernel)]

theorem result_se : after_ V main_v93 = stackEncodings (encode (before_ V main_arg0) (before_ V main_arg3) (before_ V main_arg4) (before_ V main_arg5))
    (encode (before_ V main_arg1) (before_ V main_arg12) (before_ V main_arg13) (before_ V main_arg14)) := by
  rw [stack_encodings, encoded_text, encoded_image]

theorem result_sc : after_ V main_v94
    = stackClasses (class_ (dist (encode (before_ V main_arg0) (before_ V main_arg3) (before_ V main_arg4) (before_ V main_arg5)) (before_ V main_arg6) (before_ V main_arg7) (before_ V main_arg8) (before_ V main_arg9) (before_ V main_arg10) (before_ V main_arg11)))
        (class_ (dist (encode (before_ V main_arg1) (before_ V main_arg12) (before_ V main_arg13) (before_ V main_arg14)) (before_ V main_arg15) (before_ V main_arg16) (before_ V main_arg17) (before_ V main_arg18) (before_ V main_arg19) (before_ V main_arg20))) := by
  rw [stack_classes, chosen_text, chosen_image]

end

/-! ## The run -/

variable (m : (ℓ : Loc nD τ sig) → Buf (Elt F) ℓ) (ρ : Dev nD → PrngReg)

/-- Every buffer ends at what the line leaves of the starting memory. -/
theorem run : θ_run defs (onTc (τ := τ) (main (F := F))) ⟨m, fun _ => 0, ρ⟩ (fun r => ∀ (c : Dev nD) (b : Ref sig .tc),
    r.2.mem ((c.tc : Thread nD τ).loc b) = after_ (launchContents m c) b) :=
  run_hlo defs main line.2 (by decide) (by decide) (by unfold line lineOf; simp)
    (by unfold line lineOf; intro _ h; (repeat (cases h with | head => rfl | tail _ h => ?_)); exact nomatch h) m ρ

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  θ_run_mono (run m ρ) fun r h c => by
    have hk : ∀ b : Ref sig .tc, b ∉ outs → r.2.mem ((c.tc : Thread nD τ).loc b) = m ((c.tc : Thread nD τ).loc b) :=
      fun b hb => (h c b).trans (kept (launchContents m c) hb)
    refine ⟨?_, ?_, ?_, ?_, ?_, ?_, ?_, ?_, ?_, ?_, ?_, ?_, ?_, ?_, ?_, ?_, ?_, ?_, ?_, ?_, ?_⟩ <;> exact hk _ (by decide +kernel)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
    ∧ r.2.sem = fun _ => 0) :=
  θ_run_mono (unchanged m ρ) fun r h => ⟨h, sem_eq_zero_of_no_sems rfl r.2⟩

end Host.Reference

end
-- ==== Proof.Maths.Class.lean ====
/- The class of a row: the reference's choice and the kernel's are each an index where the row is greatest. -/
module

public import proofs.«01_k».proof.Proof.Host.Reference
public import proofs.«01_k».proof.Proof.Gen.KernelIdeal
public import Idealize.ShloMosaic.Lib.Pointwise
public import Idealize.ShloMosaic.Lib.ReduceAll
public import Idealize.ShloMosaic.Lib.StableHlo.Predicate

@[expose] public section

noncomputable section

namespace Maths

open Cert.ReferenceIdeal Cert.ReferenceIdeal.Gen Idealize.ShloMosaic Host.Reference

/-- The step of the reference's search keeps one of the two pairs, and neither value is above the one kept. -/
theorem step_spec (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨a1, a2⟩ := a
  obtain ⟨b1, b2⟩ := b
  simp only [reducer_argmax_f32_i32, Ideal.cmpf_def, Ideal.cmp, Scalar.select, IntOp.ori, IntOp.andi]
  rcases lt_trichotomy a1 b1 with h | h | h
  · simp [h, h.not_gt, h.ne, h.le]
  · subst h
    rcases BitVec.eq_zero_or_eq_one (IntOp.cmpi .slt a2 b2) with h2 | h2 <;> simp [h2]
  · simp [h, h.le, h.ne']

/-- So the search ends at a pair that no value of the list is above. -/
theorem search_spec (L : List (EReal × BitVec 32)) : ∀ a : EReal × BitVec 32,
    (L.foldl (reducer_argmax_f32_i32 (F := Ideal)) a = a ∨ L.foldl (reducer_argmax_f32_i32 (F := Ideal)) a ∈ L)
      ∧ a.1 ≤ (L.foldl (reducer_argmax_f32_i32 (F := Ideal)) a).1
      ∧ ∀ p ∈ L, p.1 ≤ (L.foldl (reducer_argmax_f32_i32 (F := Ideal)) a).1 := by
  induction L with
  | nil => exact fun a => ⟨.inl rfl, le_rfl, fun p hp => nomatch hp⟩
  | cons b L ih =>
    intro a
    obtain ⟨hm, ha, hb⟩ := step_spec a b
    obtain ⟨im, ia, il⟩ := ih (reducer_argmax_f32_i32 (F := Ideal) a b)
    rw [List.foldl_cons]
    refine ⟨?_, ha.trans ia, fun p hp => ?_⟩
    · rcases im with e | e
      · rcases hm with e' | e'
        · exact .inl (e.trans e')
        · exact .inr (List.mem_cons.2 (.inl (e.trans e')))
      · exact .inr (List.mem_cons.2 (.inr e))
    · rcases List.mem_cons.1 hp with rfl | hp
      · exact hb.trans ia
      · exact il p hp

/-- An index of a matrix lies over a row exactly when its first coordinate is that row. -/
theorem over_row {n m : Nat} (h : (⟨2, ![n, m]⟩ : Shape).ReducesTo [1] ⟨1, ![n]⟩) (i : Fin n) (x : (⟨2, ![n, m]⟩ : Shape).Idx) :
    h.drop x = ix1 i ↔ x 0 = i := by
  have hv : (h.drop x 0 : Nat) = x 0 := Shape.ReducesTo.drop_apply_val _ x 0
  constructor
  · intro e; rw [e] at hv; exact Fin.ext hv.symm
  · intro e; funext b; have hb : b = 0 := Subsingleton.elim _ _; subst hb; exact Fin.ext (by rw [hv, e]; rfl)

/-- The pairs that the search along a row runs over are the row's. -/
theorem mem_fiber {n m : Nat} {α β : Type} (x : (⟨2, ![n, m]⟩ : Shape).Idx → α) (y : (⟨2, ![n, m]⟩ : Shape).Idx → β)
    (h : (⟨2, ![n, m]⟩ : Shape).ReducesTo [1] ⟨1, ![n]⟩) (i : Fin n) (p : α × β) :
    p ∈ Host.argReduceFiber x y h (ix1 i) ↔ ∃ k : Fin m, p = (x (ix2 i k), y (ix2 i k)) := by
  unfold Host.argReduceFiber
  rw [List.mem_map]
  constructor
  · rintro ⟨q, hq, rfl⟩
    have hrow := (over_row h i _).1 (of_decide_eq_true (List.mem_filter.1 hq).2)
    have hx : (⟨2, ![n, m]⟩ : Shape).rowMajor.symm q = ix2 i (((⟨2, ![n, m]⟩ : Shape).rowMajor.symm q) 1) :=
      (eq_ix2 _).trans (congrArg (ix2 · _) hrow)
    exact ⟨_, congrArg (fun z => (x z, y z)) hx⟩
  · rintro ⟨k, rfl⟩
    refine ⟨(⟨2, ![n, m]⟩ : Shape).rowMajor (ix2 i k), List.mem_filter.2 ⟨List.mem_finRange _, ?_⟩, ?_⟩
    · rw [Equiv.symm_apply_apply]
      exact decide_eq_true ((over_row h i _).2 rfl)
    · rw [Equiv.symm_apply_apply]

/-- Searching a row, from the lowest value and the index zero, ends at an index where the row is greatest. -/
theorem search_row {n m : Nat} (hm : 0 < m) (d : Vec Ideal ⟨2, ![n, m]⟩ .f32) (h : (⟨2, ![n, m]⟩ : Shape).ReducesTo [1] ⟨1, ![n]⟩) (i : Fin n)
    {u : Shape} (hu : 0 < u.numel) :
    ∃ k : Fin m, chosen d h hu (ix1 i) = BitVec.ofNat 32 k.val
      ∧ ∀ k' : Fin m, d (ix2 i k') ≤ d (ix2 i k) := by
  unfold chosen
  rw [Ideal.argReduce_eq_reduce2, Host.reduce2_eq_foldl_fiber]
  obtain ⟨hk, -, hl⟩ := search_spec (Host.argReduceFiber d (iotaInDim ⟨2, ![n, m]⟩ 32 1) h (ix1 i))
    ((constant u .f32 0xFF800000#32 : FVec Ideal u .f32) (Shape.Idx.first hu), constantI u 32 0#32 (Shape.Idx.first hu))
  have hl' := fun k' : Fin m => hl _ ((mem_fiber d _ h i _).2 ⟨k', rfl⟩)
  rcases hk with e | e
  · refine ⟨⟨0, hm⟩, by rw [e]; rfl, fun k' => ?_⟩
    have hle := hl' k'
    rw [e] at hle
    refine hle.trans (le_of_eq_of_le ?_ bot_le)
    show Ideal.ofBits .f32 0xFF800000#32 = ⊥
    simp [Ideal.ofBits, Ideal.ieee]
  · obtain ⟨k, hk⟩ := (mem_fiber d _ h i _).1 e
    refine ⟨k, by rw [hk]; rfl, fun k' => ?_⟩
    have hle := hl' k'
    rw [hk] at hle
    exact hle

/-- The reference's class is one where the row is greatest. -/
theorem class_spec (d : Vec Ideal S65536x512 .f32) (i : Fin 65536) :
    ∃ k : Fin 512, class_ d (ix1 i) = BitVec.ofNat 32 k.val ∧ ∀ k' : Fin 512, d (ix2 i k') ≤ d (ix2 i k) :=
  search_row (n := 65536) (m := 512) (Nat.succ_pos 511) d reducesTo_S65536x512_S65536_d1 i h_S_

end Maths

end
-- ==== Proof.Maths.Greatest.lean ====
/- Where a row is greatest: what the kernel's search answers, what the softmax of a row keeps of its order, and what a row
   whose greatest value appears once leaves to choose. -/
module

public import proofs.«01_k».proof.Proof.Maths.Class

@[expose] public section

noncomputable section

namespace Maths

open Cert.ReferenceIdeal Cert.ReferenceIdeal.Gen Idealize.ShloMosaic Host.Reference

/-! ## The kernel's search -/

/-- An index of a matrix lies over a column exactly when its second coordinate is that column. -/
theorem over_column {m n : Nat} (h : (⟨2, ![m, n]⟩ : Shape).Reduces [0] ⟨1, ![n]⟩) (r : Fin n) (x : (⟨2, ![m, n]⟩ : Shape).Idx) :
    h.drop x = ix1 r ↔ x 1 = r := by
  have hv : (h.drop x 0 : Nat) = x 1 := rfl
  constructor
  · intro e; rw [e] at hv; exact Fin.ext hv.symm
  · intro e; funext b; have hb : b = 0 := Subsingleton.elim _ _; subst hb; exact Fin.ext (by rw [hv, e]; rfl)

/-- The kernel's search along a column answers an index where the column is greatest. -/
theorem search_column {m n : Nat} (hm : 0 < m) (x : FVec Ideal ⟨2, ![m, n]⟩ .f32) (h : (⟨2, ![m, n]⟩ : Shape).Reduces [0] ⟨1, ![n]⟩)
    (r : Fin n) :
    ∃ k : Fin m, reduceIndex .argMax 0 ⟨1, ![n]⟩ x h (ix1 r) = BitVec.ofNat 32 k.val
      ∧ ∀ k' : Fin m, x (ix2 k' r) ≤ x (ix2 k r) := by
  classical
  obtain ⟨top, -, htop⟩ := Finset.exists_max_image (Finset.univ : Finset (Fin m)) (fun k => x (ix2 k r)) ⟨⟨0, hm⟩, Finset.mem_univ _⟩
  have hcol : ∀ y : (⟨2, ![m, n]⟩ : Shape).Idx, h.drop y = ix1 r → y = ix2 (y 0) r := fun y hy =>
    (eq_ix2 y).trans (congrArg (ix2 (y 0)) ((over_column h r y).1 hy))
  show ∃ k : Fin m, Ideal.reduceIndex .argMax 0 h x (ix1 r) = BitVec.ofNat 32 k.val ∧ _
  unfold Ideal.reduceIndex
  simp only [if_true]
  set ext := (Finset.univ.filter fun y : (⟨2, ![m, n]⟩ : Shape).Idx => h.drop y = ix1 r).filter fun y =>
    ∀ y' ∈ Finset.univ.filter (fun y : (⟨2, ![m, n]⟩ : Shape).Idx => h.drop y = ix1 r), ¬ x y < x y' with hext
  have hmem : ix2 top r ∈ ext := by
    refine Finset.mem_filter.2 ⟨Finset.mem_filter.2 ⟨Finset.mem_univ _, (over_column h r _).2 rfl⟩, fun y' hy' => ?_⟩
    rw [hcol y' (Finset.mem_filter.1 hy').2]
    exact not_lt.2 (htop _ (Finset.mem_univ _))
  obtain ⟨v, hv⟩ := Finset.min_of_nonempty ⟨_, Finset.mem_image_of_mem (fun y : (⟨2, ![m, n]⟩ : Shape).Idx => (y 0).val) hmem⟩
  obtain ⟨y, hy, hyv⟩ := Finset.mem_image.1 (Finset.mem_of_min hv)
  have hy2 := Finset.mem_filter.1 hy
  have hyr := hcol y (Finset.mem_filter.1 hy2.1).2
  refine ⟨y 0, ?_, fun k' => ?_⟩
  · rw [hyv]
    exact congrArg (fun o => BitVec.ofNat 32 (Option.getD o 0)) hv
  · exact (not_lt.1 (hy2.2 _ (Finset.mem_filter.2 ⟨Finset.mem_univ _, (over_column h r (ix2 k' r)).2 rfl⟩))).trans_eq (congrArg x hyr)

/-! ## The greatest value of a row -/

/-- A row's greatest value is its value at an index where it is greatest. -/
theorem row_max {n m : Nat} {u : Shape} (d : FVec Ideal ⟨2, ![n, m]⟩ .f32) (h : (⟨2, ![n, m]⟩ : Shape).ReducesTo [1] ⟨1, ![n]⟩) (hu : 0 < u.numel)
    (i : Fin n) (k : Fin m) (hk : ∀ q : Fin m, d (ix2 i q) ≤ d (ix2 i k)) :
    Host.reduce FloatOps.maximumf d (constant u .f32 0xFF800000#32) h hu (ix1 i) = d (ix2 i k) := by
  rw [Host.reduce_eq_fold]
  show Finset.fold max (Ideal.ofBits .f32 0xFF800000#32) d _ = _
  have hbot : Ideal.ofBits .f32 0xFF800000#32 = ⊥ := by simp [Ideal.ofBits, Ideal.ieee]
  rw [hbot]
  refine le_antisymm (Finset.fold_max_le _ |>.2 ⟨bot_le, fun y hy => ?_⟩) (Finset.le_fold_max _ |>.2 (.inr ⟨ix2 i k, ?_, le_rfl⟩))
  · rw [(eq_ix2 y).trans (congrArg (ix2 · (y 1)) ((over_row h i y).1 (Finset.mem_filter.1 hy).2))]
    exact hk _
  · exact Finset.mem_filter.2 ⟨Finset.mem_univ _, (over_row h i _).2 rfl⟩

/-- A value spread over its row is that value. -/
theorem spread_at (v : Vec Ideal S65536 .f32) (i : Fin 65536) (k : Fin 512) : spread v (ix2 i k) = v (ix1 i) := by
  pointwise [spread]

/-! ## The softmax keeps the order of a row -/

theorem exp_nonneg (t : EReal) : 0 ≤ Ideal.exp t := by
  induction t with
  | bot => exact le_rfl
  | top => exact le_top
  | coe r => exact EReal.coe_nonneg.2 (Real.exp_pos r).le

theorem exp_mono {s t : EReal} (h : s ≤ t) : Ideal.exp s ≤ Ideal.exp t := by
  induction s with
  | bot => exact exp_nonneg t
  | top => rw [top_le_iff.1 h]
  | coe r =>
    induction t with
    | bot => exact absurd h (not_le.2 (EReal.bot_lt_coe r))
    | top => exact le_top
    | coe q => exact EReal.coe_le_coe_iff.2 (Real.exp_le_exp.2 (EReal.coe_le_coe_iff.1 h))

theorem div_mono {s t c : EReal} (hc : 0 ≤ c) (h : s ≤ t) : Ideal.div s c ≤ Ideal.div t c := by
  unfold Ideal.div
  by_cases h0 : c = 0
  · rw [if_pos h0, if_pos h0]
    by_cases hs : 0 < s
    · rw [if_pos hs, if_pos (hs.trans_le h)]
    · rw [if_neg hs]; exact bot_le
  · rw [if_neg h0, if_neg h0]
    exact mul_le_mul_of_nonneg_right h (EReal.inv_nonneg_of_nonneg hc)

/-- A matrix divided by a value per row. -/
theorem divided (w : Vec Ideal S65536x512 .f32) (v : Vec Ideal S65536 .f32) (i : Fin 65536) (k : Fin 512) :
    (Host.divf w (spread v) : Vec Ideal S65536x512 .f32) (ix2 i k) = Ideal.div (w (ix2 i k)) (v (ix1 i)) :=
  congrArg (Ideal.div (w (ix2 i k))) (spread_at v i k)

/-- A greater entry of a row has a softmax at least as great. -/
theorem softmax_mono (z : Vec Ideal S65536x512 .f32) (i : Fin 65536) {k k' : Fin 512} (h : z (ix2 i k) ≤ z (ix2 i k')) :
    softmax z (ix2 i k) ≤ softmax z (ix2 i k') := by
  have hw : ∀ q : Fin 512, weights z (ix2 i q) = Ideal.exp (z (ix2 i q)
      - maximumf (broadcastInDim S65536 ![] bcast_S_S65536 (constant S_ .f32 0xFF800000#32)) (greatest z) (ix1 i)) := fun q =>
    congrArg (fun t => Ideal.exp (z (ix2 i q) - t)) (spread_at _ i q)
  unfold softmax
  rw [divided, divided]
  refine div_mono ?_ ?_
  · show 0 ≤ Ideal.hostReduceAdd reducesTo_S65536x512_S65536_d1 (weights z) (Ideal.ofBits .f32 0x00000000#32) (ix1 i)
    unfold Ideal.hostReduceAdd
    rw [Ideal.ofBits_zero_f32, zero_add]
    exact Finset.sum_nonneg fun y _ => exp_nonneg _
  · rw [hw, hw]
    exact exp_mono (EReal.sub_le_sub h le_rfl)

/-! ## A greatest value that appears once -/

/-- That in each row of a matrix the greatest value appears exactly once, as a bit. -/
def once {F : FTy → Type} [FloatOps F] (hlt : 1 < 32) (hall : S65536.ReducesTo [0] S_) (d : Vec F S65536x512 .f32) : IVec S_ 1 :=
  Host.reduce IntOp.andi
    (cmpi .eq (Host.reduce IntOp.addi (extui 32 (cmpf .oeq d (spread (greatest d))) hlt) (constantI S_ 32 0#32) reducesTo_S65536x512_S65536_d1 h_S_)
      (broadcastInDim S65536 ![] bcast_S_S65536 (constantI S_ 32 1#32)))
    (constantI S_ 1 1#1) hall h_S_

/-- Then two indices at which a row is greatest are the same. -/
theorem unique {hlt : 1 < 32} {hall : S65536.ReducesTo [0] S_} (d : Vec Ideal S65536x512 .f32) (h : ∀ j, once hlt hall d j = 1#1)
    (i : Fin 65536) {k k' : Fin 512} (hk : ∀ q : Fin 512, d (ix2 i q) ≤ d (ix2 i k)) (hk' : ∀ q : Fin 512, d (ix2 i q) ≤ d (ix2 i k')) : k = k' := by
  have hrow := Host.reduce_andi_all _ _ hall h_S_ (ix0) (h _) (ix1 i)
  have hcount := StableHlo.Predicate.toNat_reduce_count_cols (n := 65536) (m := 512) (by norm_num) (cmpf .oeq d (spread (greatest d))) hlt reducesTo_S65536x512_S65536_d1 h_S_ (ix1 i)
  have hone : Host.reduce IntOp.addi (extui 32 (cmpf .oeq d (spread (greatest d))) hlt) (constantI S_ 32 0#32) reducesTo_S65536x512_S65536_d1 h_S_ (ix1 i) = 1#32 :=
    StableHlo.Predicate.cmpi_eq_iff.1 hrow
  rw [hone] at hcount
  have hin : ∀ c : Fin 512, (∀ q : Fin 512, d (ix2 i q) ≤ d (ix2 i c)) →
      c ∈ Finset.univ.filter (fun q : Fin 512 => cmpf .oeq d (spread (greatest d)) (StableHlo.Predicate.ij i q) = 1#1) := fun c hc => by
    refine Finset.mem_filter.2 ⟨Finset.mem_univ _, ?_⟩
    have hij : StableHlo.Predicate.ij i c = ix2 i c := eq_ix2 _
    show Ideal.cmp .oeq (d (StableHlo.Predicate.ij i c)) (spread (greatest d) (StableHlo.Predicate.ij i c)) = 1#1
    rw [hij, spread_at]
    have hm : greatest d (ix1 i) = d (ix2 i c) := row_max d _ _ i c hc
    rw [hm]
    simp [Ideal.cmp]
  exact Finset.card_le_one.1 (le_of_eq hcount.symm) _ (hin k hk) _ (hin k' hk')

end Maths

end
-- ==== Proof.Maths.Row.lean ====
/- One row through the network: the kernel's padded, transposed layers compute the reference's. -/
module

public import proofs.«01_k».proof.Proof.Maths.Greatest
public import proofs.«01_k».proof.Proof.Host.Padded
public import proofs.«01_k».proof.Proof.Fused.Blocks
public import Idealize.ShloMosaic.Lib.Pointwise.Select

@[expose] public section

noncomputable section

namespace Maths

open Cert.KernelIdeal Cert.KernelIdeal.Gen Idealize.ShloMosaic Host.Padded

/-! ## The leaky rectifier -/

/-- The slope of the rectifier below zero. -/
def tenth : EReal := Ideal.ofBits .f32 0x3DCCCCCD#32

theorem tenth_nonneg : 0 ≤ tenth := by
  unfold tenth
  simp [Ideal.ofBits, Ideal.ieee, -EReal.coe_mul]

theorem tenth_le_one : tenth ≤ 1 := by
  unfold tenth
  simp [Ideal.ofBits, Ideal.ieee, -EReal.coe_mul]
  norm_num
  exact EReal.coe_le_coe_iff.2 (by norm_num : (13421773 / 134217728 : ℝ) ≤ 1)

/-- The rectifier as the kernel has it. -/
def leak (t : EReal) : EReal := max t (tenth * t)

theorem leak_mono {s t : EReal} (h : s ≤ t) : leak s ≤ leak t :=
  max_le_max h (mul_le_mul_of_nonneg_left h tenth_nonneg)

theorem leak_one : leak 1 = 1 := by
  unfold leak
  rw [mul_one]
  exact max_eq_left tenth_le_one

/-- The rectifier as the reference has it is the same. -/
theorem leak_eq (t : EReal) : (if 0 ≤ t then t else tenth * t) = leak t := by
  unfold leak
  by_cases h : 0 ≤ t
  · rw [if_pos h, max_eq_left]
    calc tenth * t ≤ 1 * t := mul_le_mul_of_nonneg_right tenth_le_one h
      _ = t := one_mul t
  · rw [if_neg h, max_eq_right]
    have hn : 0 ≤ -t := EReal.neg_nonneg.2 (not_le.1 h).le
    have : tenth * -t ≤ -t := by
      calc tenth * -t ≤ 1 * -t := mul_le_mul_of_nonneg_right tenth_le_one hn
        _ = -t := one_mul _
    rw [mul_neg] at this
    exact EReal.neg_le_neg_iff.1 this

theorem leaky64_at (z : Vec Ideal Cert.ReferenceIdeal.S65536x64 .f32) (i : Fin 65536) (k : Fin 64) :
    Host.Reference.leaky64 z (ix2 i k) = leak (z (ix2 i k)) := by
  rw [← leak_eq]
  unfold tenth
  pointwise [Host.Reference.leaky64]

theorem leaky512_at (z : Vec Ideal Cert.ReferenceIdeal.S65536x512 .f32) (i : Fin 65536) (k : Fin 512) :
    Host.Reference.leaky512 z (ix2 i k) = leak (z (ix2 i k)) := by
  rw [← leak_eq]
  unfold tenth
  pointwise [Host.Reference.leaky512]

/-! ## The encodings -/

theorem encode_row {b : Vec Ideal S2048x64 .f32} {x : Vec Ideal Cert.ReferenceIdeal.S65536x64 .f32} {r : Fin 2048} {i : Fin 65536}
    (h : ∀ k : Fin 64, b (ix2 r k) = x (ix2 i k)) (W1 W2 : Vec Ideal S64x64 .f32) (W3 : Vec Ideal S64x32 .f32) (c : Fin 32) :
    k0_pay3 b W1 W2 W3 (ix2 r c) = Host.Reference.encode x W1 W2 W3 (ix2 i c) := by
  pointwise [k0_pay3, Host.Reference.encode]
  simp only [h]

/-! ## The reference's layers -/

theorem layer1_at (s : Vec Ideal Cert.ReferenceIdeal.S65536x32 .f32) (M : Vec Ideal S32x64 .f32) (b : Vec Ideal S64 .f32) (i : Fin 65536) (j : Fin 64) :
    Host.Reference.layer1 s M b (ix2 i j) = leak ((∑ k : Fin 32, s (ix2 i k) * M (ix2 k j)) + b (ix1 j)) := by
  unfold Host.Reference.layer1
  rw [leaky64_at]
  pointwise [Host.Reference.bias64]

theorem layer2_at (s : Vec Ideal Cert.ReferenceIdeal.S65536x64 .f32) (M : Vec Ideal S64x64 .f32) (b : Vec Ideal S64 .f32) (i : Fin 65536) (j : Fin 64) :
    Host.Reference.layer2 s M b (ix2 i j) = leak ((∑ k : Fin 64, s (ix2 i k) * M (ix2 k j)) + b (ix1 j)) := by
  unfold Host.Reference.layer2
  rw [leaky64_at]
  pointwise [Host.Reference.bias64]

theorem layer3_at (s : Vec Ideal Cert.ReferenceIdeal.S65536x64 .f32) (M : Vec Ideal S64x512 .f32) (b : Vec Ideal S512 .f32) (i : Fin 65536) (j : Fin 512) :
    Host.Reference.layer3 s M b (ix2 i j) = leak ((∑ k : Fin 64, s (ix2 i k) * M (ix2 k j)) + b (ix1 j)) := by
  unfold Host.Reference.layer3
  rw [leaky512_at]
  pointwise [Host.Reference.bias512]

/-! ## The kernel's layers -/

/-- The first layer before its rectifier, transposed and padded. -/
theorem hidden2_at (b : Vec Ideal S2048x64 .f32) (W1 W2 : Vec Ideal S64x64 .f32) (W3 : Vec Ideal S64x32 .f32) (m1 : Vec Ideal S32x72 .f32)
    (c1 : Vec Ideal S72x1 .f32) (m2 : Vec Ideal S72x72 .f32) (p : Fin 72) (r : Fin 2048) :
    k0_pay5 b W1 W2 W3 m1 c1 m2 (ix2 p r)
      = ∑ q : Fin 72, m2 (ix2 q p) * leak ((∑ k : Fin 32, m1 (ix2 k q) * k0_pay3 b W1 W2 W3 (ix2 r k)) + c1 (ix2 q 0)) := by
  unfold leak tenth
  pointwise [k0_pay5]

/-- What the kernel searches. -/
def scores (h : FVec Ideal S72x2048 .f32) (m3 : Vec Ideal S72x512 .f32) : FVec Ideal S512x2048 .f32 :=
  matmul (φ₁ := .f32) (φ₂ := .f32) dot_S72x512_S72x2048_S512x2048_0_0_1_1_n_n none m3 (maximumf h (mulf k0_pay6 h)) (constant S512x2048 .f32 0x00000000#32)

theorem scores_at (h : FVec Ideal S72x2048 .f32) (m3 : Vec Ideal S72x512 .f32) (k : Fin 512) (r : Fin 2048) :
    scores h m3 (ix2 k r) = ∑ p : Fin 72, m3 (ix2 p k) * leak (h (ix2 p r)) := by
  unfold leak tenth
  pointwise [scores, k0_pay6]

theorem search_at (h : FVec Ideal S72x2048 .f32) (m3 : Vec Ideal S72x512 .f32) (r : Fin 2048) :
    k0_pay7 h k0_pay6 m3 (ix4 0 0 0 r) = reduceIndex .argMax 0 S2048 (scores h m3) reduces_S512x2048_S2048 (ix1 r) := by
  pointwise [k0_pay7, scores]

/-! ## A row -/

/-- A sum over the padded width, when its last seven terms are zero. -/
theorem sum_padded (f : Fin 72 → EReal) (h : ∀ j : Fin 8, j.val ≠ 0 → f (hi j) = 0) : ∑ j : Fin 72, f j = (∑ j : Fin 64, f (lo j)) + f (hi 0) := by
  have e : ∑ j : Fin 72, f j = (∑ j : Fin 64, f (lo j)) + ∑ j : Fin 8, f (hi j) := Fin.sum_univ_add (a := 64) (b := 8) f
  have e8 : ∑ j : Fin 8, f (hi j) = f (hi 0) :=
    Finset.sum_eq_single 0 (fun j _ hj => h j fun h0 => hj (Fin.ext h0)) fun h0 => absurd (Finset.mem_univ _) h0
  rw [e, e8]

/-- The zero and the one that the padding sets. -/
theorem zero_word : (FloatOps.ofBits .f32 0x00000000#32 : Ideal .f32) = (0 : EReal) := Ideal.ofBits_zero_f32

theorem one_word : (FloatOps.ofBits .f32 0x3F800000#32 : Ideal .f32) = (1 : EReal) := by
  show Ideal.ofBits .f32 0x3F800000#32 = 1
  simp [Ideal.ofBits, Ideal.ieee, -EReal.coe_mul]
  norm_num

section

variable {b : Vec Ideal S2048x64 .f32} {W1 W2 : Vec Ideal S64x64 .f32} {W3 : Vec Ideal S64x32 .f32}
  {s : Vec Ideal Cert.ReferenceIdeal.S65536x32 .f32} {r : Fin 2048} {i : Fin 65536}
  (hs : ∀ k : Fin 32, k0_pay3 b W1 W2 W3 (ix2 r k) = s (ix2 i k))
  (M1 : Vec Ideal S32x64 .f32) (b1 : Vec Ideal S64 .f32) (M2 : Vec Ideal S64x64 .f32) (b2 : Vec Ideal S64 .f32)
  (M3 : Vec Ideal S64x512 .f32) (b3 : Vec Ideal S512 .f32)

include hs

/-- The first layer in the padded arrays: the reference's, then a one. -/
theorem padded1_lo (j : Fin 64) :
    leak ((∑ k : Fin 32, weight1 M1 (ix2 k (lo j)) * k0_pay3 b W1 W2 W3 (ix2 r k)) + bias1 b1 (ix2 (lo j) 0))
      = Host.Reference.layer1 s M1 b1 (ix2 i j) := by
  rw [layer1_at]
  simp only [weight1_lo, bias1_lo, hs]
  simp only [mul_comm]

omit hs in
theorem padded1_one :
    leak ((∑ k : Fin 32, weight1 M1 (ix2 k (hi 0)) * k0_pay3 b W1 W2 W3 (ix2 r k)) + bias1 b1 (ix2 (hi 0) 0)) = 1 := by
  simp only [weight1_hi, bias1_one, zero_word, one_word, zero_mul, Finset.sum_const_zero, zero_add, leak_one]

/-- The second layer likewise. -/
theorem padded2_lo (j : Fin 64) :
    leak (k0_pay5 b W1 W2 W3 (weight1 M1) (bias1 b1) (weight2 M2 b2) (ix2 (lo j) r))
      = Host.Reference.layer2 (Host.Reference.layer1 s M1 b1) M2 b2 (ix2 i j) := by
  rw [layer2_at, hidden2_at, sum_padded _ fun q hq => by rw [weight2_below M2 b2 q hq, zero_word, zero_mul]]
  rw [padded1_one]
  simp only [padded1_lo hs, weight2_lo, weight2_bias, mul_one]
  simp only [mul_comm]

omit hs in
theorem padded2_one :
    leak (k0_pay5 b W1 W2 W3 (weight1 M1) (bias1 b1) (weight2 M2 b2) (ix2 (hi 0) r)) = 1 := by
  rw [hidden2_at, sum_padded _ fun q hq => by rw [weight2_below M2 b2 q hq, zero_word, zero_mul]]
  rw [padded1_one]
  simp only [weight2_above, weight2_one, zero_word, one_word, zero_mul, Finset.sum_const_zero, zero_add, mul_one, leak_one]

/-- The rectified scores of the kernel are the reference's third layer. -/
theorem scores_eq (k : Fin 512) :
    leak (scores (k0_pay5 b W1 W2 W3 (weight1 M1) (bias1 b1) (weight2 M2 b2)) (weight3 M3 b3) (ix2 k r))
      = Host.Reference.layer3 (Host.Reference.layer2 (Host.Reference.layer1 s M1 b1) M2 b2) M3 b3 (ix2 i k) := by
  rw [layer3_at, scores_at, sum_padded _ fun q hq => by rw [weight3_below M3 b3 q hq, zero_word, zero_mul]]
  simp only [padded2_lo hs, padded2_one, weight3_lo, weight3_bias, mul_one]
  simp only [mul_comm]

/-- The kernel's class of a row is the reference's, where the greatest value of each distribution appears once. -/
theorem class_row {hlt : 1 < 32} {hall : Cert.ReferenceIdeal.S65536.ReducesTo [0] Cert.ReferenceIdeal.S_}
    (h : ∀ j, once hlt hall (Host.Reference.dist s M1 b1 M2 b2 M3 b3) j = 1#1) :
    Fused.classRow b W1 W2 W3 (weight1 M1) (bias1 b1) (weight2 M2 b2) (weight3 M3 b3) (ix4 0 0 0 r)
      = Host.Reference.class_ (Host.Reference.dist s M1 b1 M2 b2 M3 b3) (ix1 i) := by
  unfold Fused.classRow
  rw [search_at]
  obtain ⟨k, hk, hmax⟩ := search_column (by norm_num) (scores (k0_pay5 b W1 W2 W3 (weight1 M1) (bias1 b1) (weight2 M2 b2)) (weight3 M3 b3))
    reduces_S512x2048_S2048 r
  obtain ⟨k', hk', hmax'⟩ := class_spec (Host.Reference.dist s M1 b1 M2 b2 M3 b3) i
  rw [hk, hk', unique _ h i (k := k) (k' := k') (fun q => ?_) hmax']
  unfold Host.Reference.dist
  refine softmax_mono _ i ?_
  rw [← scores_eq hs, ← scores_eq hs]
  exact leak_mono (hmax q)

end

end Maths

end
-- ==== Proof.Maths.Stack.lean ====
/- How the two modalities' results lie in the stacked arrays. -/
module

public import proofs.«01_k».proof.Proof.Host.Reference
public import Idealize.ShloMosaic.Lib.Pointwise
public import Idealize.ShloMosaic.Lib.Pointwise.Select

@[expose] public section

noncomputable section

namespace Maths

open Cert.ReferenceIdeal Cert.ReferenceIdeal.Gen Idealize.ShloMosaic Host.Reference

variable {F : FTy → Type} [FloatOps F]

/-- The encodings of one modality are one half of the stack. -/
theorem stackEncodings_at (a b : Vec F S65536x32 .f32) (h : Fin 2) (i : Fin 65536) (k : Fin 32) :
    stackEncodings a b (ix3 h i k) = if h.val = 0 then a (ix2 i k) else b (ix2 i k) := by
  have hh : h.val < 2 := h.isLt
  have hi : i.val < 65536 := i.isLt
  pointwise [stackEncodings]
  split <;> split
  · exact congrArg (fun z => a (ix2 z k)) (Fin.ext (by simp only; omega))
  · omega
  · omega
  · exact congrArg (fun z => b (ix2 z k)) (Fin.ext (by simp only; omega))

/-- The classes of one modality are one half of the lines. -/
theorem stackClasses_at (a b : Vec F S65536 .i32) (h : Fin 2) (t : Fin 32) (r : Fin 2048) (i : Fin 65536) (hi : i.val = t.val * 2048 + r.val) :
    stackClasses a b (ix4 h t 0 r) = if h.val = 0 then a (ix1 i) else b (ix1 i) := by
  have hh : h.val < 2 := h.isLt
  have hi2 : i.val < 65536 := i.isLt
  pointwise [stackClasses]
  split <;> split
  · exact congrArg (fun z => a (ix1 z)) (Fin.ext (by simp only; omega))
  · omega
  · omega
  · exact congrArg (fun z => b (ix1 z)) (Fin.ext (by simp only; omega))

end Maths

end
-- ==== Proof.Maths.Condition.lean ====
/- The precondition, taken apart: in each row of both modalities' distributions the greatest value appears once. -/
module

public import proofs.«01_k».proof.Proof.Maths.Greatest
public import proofs.«01_k».proof.Proof.Gen.Pre_one_greatest

@[expose] public section

noncomputable section

namespace Maths

open Cert.ReferenceIdeal Cert.ReferenceIdeal.Gen Idealize.ShloMosaic Host.Reference

section

variable {F : FTy → Type} [FloatOps F] (x y : Vec F S65536x64 .f32) (c : Vec F S512x32 .f32)
  (W1 W2 : Vec F S64x64 .f32) (W3 : Vec F S64x32 .f32) (M1 : Vec F S32x64 .f32) (b1 : Vec F S64 .f32) (M2 : Vec F S64x64 .f32)
  (b2 : Vec F S64 .f32) (M3 : Vec F S64x512 .f32) (b3 : Vec F S512 .f32)
  (W1' W2' : Vec F S64x64 .f32) (W3' : Vec F S64x32 .f32) (M1' : Vec F S32x64 .f32) (b1' : Vec F S64 .f32) (M2' : Vec F S64x64 .f32)
  (b2' : Vec F S64 .f32) (M3' : Vec F S64x512 .f32) (b3' : Vec F S512 .f32)

/-- The precondition's bit is the two modalities' bits together. -/
theorem condition_eq :
    Cert.Pre_one_greatest.fn (F := F) x y c W1 W2 W3 M1 b1 M2 b2 M3 b3 W1' W2' W3' M1' b1' M2' b2' M3' b3'
      = andi (once Cert.Pre_one_greatest.Facts.natLt_1_32 Cert.Pre_one_greatest.Facts.reducesTo_S65536_S_d0 (dist (encode x W1 W2 W3) M1 b1 M2 b2 M3 b3))
          (once Cert.Pre_one_greatest.Facts.natLt_1_32 Cert.Pre_one_greatest.Facts.reducesTo_S65536_S_d0 (dist (encode y W1' W2' W3') M1' b1' M2' b2' M3' b3')) := by
  rfl

end

end Maths

end
-- ==== Proof.Agree.lean ====
/- The kernel's three result arrays are the reference's. -/
module

public import proofs.«01_k».proof.Proof.Fused.Value
public import proofs.«01_k».proof.Proof.Fused.Inputs
public import proofs.«01_k».proof.Proof.Host.Weights
public import proofs.«01_k».proof.Proof.Host.Results
public import proofs.«01_k».proof.Proof.Maths.Row
public import proofs.«01_k».proof.Proof.Maths.Stack
public import proofs.«01_k».proof.Proof.Maths.Condition

@[expose] public section

noncomputable section

namespace Agree

open Cert.KernelIdeal Cert.KernelIdeal.Gen Idealize.ShloMosaic Idealize.ShloMosaic.TcCoe Idealize.SL.Sem Fused Maths
open Host.Reference (encode dist class_ stackEncodings stackClasses)

variable (m : (ℓ : Loc nD τ sig) → Buf (Elt Ideal) ℓ) (c : Dev nD)

/-- The encodings of the text and of the image, as the reference has them. -/
abbrev textCodes : Vec Ideal Cert.ReferenceIdeal.S65536x32 .f32 :=
  encode (V m c main_arg0) (V m c main_arg3) (V m c main_arg4) (V m c main_arg5)

abbrev imageCodes : Vec Ideal Cert.ReferenceIdeal.S65536x32 .f32 :=
  encode (V m c main_arg1) (V m c main_arg12) (V m c main_arg13) (V m c main_arg14)

/-- The distributions over the classes likewise. -/
abbrev textDist : Vec Ideal Cert.ReferenceIdeal.S65536x512 .f32 :=
  dist (textCodes m c) (V m c main_arg6) (V m c main_arg7) (V m c main_arg8) (V m c main_arg9) (V m c main_arg10) (V m c main_arg11)

abbrev imageDist : Vec Ideal Cert.ReferenceIdeal.S65536x512 .f32 :=
  dist (imageCodes m c) (V m c main_arg15) (V m c main_arg16) (V m c main_arg17) (V m c main_arg18) (V m c main_arg19) (V m c main_arg20)

/-- A point's encodings of the text are the reference's rows there; the image's likewise. -/
theorem text_codes (t : Fin cfg0.N) (r : Fin 2048) (i : Fin 65536) (hi : i.val = t.val * 2048 + r.val) (k : Fin 32) :
    k0_pay3 (iblk m c 0 t) (V m c main_arg3) (V m c main_arg4) (V m c main_arg5) (ix2 r k) = textCodes m c (ix2 i k) :=
  encode_row (fun q => rows_0 m c t r q i hi) _ _ _ k

theorem image_codes (t : Fin cfg0.N) (r : Fin 2048) (i : Fin 65536) (hi : i.val = t.val * 2048 + r.val) (k : Fin 32) :
    k0_pay3 (iblk m c 1 t) (V m c main_arg12) (V m c main_arg13) (V m c main_arg14) (ix2 r k) = imageCodes m c (ix2 i k) :=
  encode_row (fun q => rows_1 m c t r q i hi) _ _ _ k

/-- The first result. -/
theorem c_eq : cAt m c = (Host.tanh (F := Ideal) (s := S512x32) (φ := .f32) (V m c main_arg2) : FVec Ideal S512x32 .f32) := by
  unfold cAt
  rw [whole_2]
  rfl

/-- The second result. -/
theorem se_eq : seWhole m c = stackEncodings (textCodes m c) (imageCodes m c) := by
  funext j
  obtain ⟨h, i, k, rfl⟩ : ∃ (h : Fin 2) (i : Fin 65536) (k : Fin 32), j = ix3 h i k := ⟨_, _, _, eq_ix3 j⟩
  have hi : i.val = (pointOf i).val * 2048 + (placeOf i).val := (Nat.div_add_mod' i.val 2048).symm
  rw [stackEncodings_at, ← text_codes m c (pointOf i) (placeOf i) i hi, ← image_codes m c (pointOf i) (placeOf i) i hi]
  unfold seWhole seAt seBlock
  rw [whole_3, whole_4, whole_5, whole_10, whole_11, whole_12]
  rfl

/-- The third result, where the greatest value of each distribution appears once. -/
theorem sc_eq {hlt : 1 < 32} {hall : Cert.ReferenceIdeal.S65536.ReducesTo [0] Cert.ReferenceIdeal.S_}
    (ht : ∀ j, once hlt hall (textDist m c) j = 1#1) (hi : ∀ j, once hlt hall (imageDist m c) j = 1#1) :
    wcWhole m c = stackClasses (class_ (textDist m c)) (class_ (imageDist m c)) := by
  funext j
  obtain ⟨h, t, z, r, rfl⟩ : ∃ (h : Fin 2) (t : Fin 32) (z : Fin 1) (r : Fin 2048), j = ix4 h t z r := ⟨_, _, _, _, eq_ix4 j⟩
  obtain rfl : z = 0 := Subsingleton.elim _ _
  have hrow : t.val * 2048 + r.val < 65536 := by omega
  rw [stackClasses_at _ _ h t r ⟨t.val * 2048 + r.val, hrow⟩ rfl,
    ← class_row (text_codes m c ⟨t.val, by rw [show cfg0.N = 32 from N_0]; exact t.isLt⟩ r ⟨_, hrow⟩ rfl) _ _ _ _ _ _ ht,
    ← class_row (image_codes m c ⟨t.val, by rw [show cfg0.N = 32 from N_0]; exact t.isLt⟩ r ⟨_, hrow⟩ rfl) _ _ _ _ _ _ hi]
  unfold wcWhole wcAt wcBlock
  rw [whole_3, whole_4, whole_5, whole_6, whole_7, whole_8, whole_9, whole_10, whole_11, whole_12, whole_13, whole_14, whole_15, whole_16,
    Host.Weights.weight1_v2, Host.Weights.bias1_v11, Host.Weights.weight2_v24, Host.Weights.weight3_v29,
    Host.Weights.weight1_v32, Host.Weights.bias1_v41, Host.Weights.weight2_v54, Host.Weights.weight3_v59]
  rfl

end Agree

end
-- ==== Proof.Together.lean ====
/- From equal arguments and a satisfied precondition, the reference ends with the kernel's three arrays. -/
module

public import proofs.«01_k».proof.Proof.Agree

@[expose] public section

noncomputable section

namespace Agree

open Cert.KernelIdeal Cert.KernelIdeal.Gen Idealize.ShloMosaic Idealize.ShloMosaic.TcCoe Idealize.SL.Sem Idealize.ShloMosaic.StableHlo Fused Maths
open Host.Reference (encode dist class_ stackEncodings stackClasses after_ before_)

attribute [local instance] Cert.KernelIdeal.Gen.facts Cert.ReferenceIdeal.Gen.facts Cert.Pre_one_greatest.Gen.facts

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- A satisfied precondition gives the bit of each modality. -/
theorem bits (h : Cert.Pre_one_greatest.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) = fun _ => 1#1) :
    (∀ j, once Cert.Pre_one_greatest.Facts.natLt_1_32 Cert.Pre_one_greatest.Facts.reducesTo_S65536_S_d0 (textDist m c) j = 1#1)
      ∧ ∀ j, once Cert.Pre_one_greatest.Facts.natLt_1_32 Cert.Pre_one_greatest.Facts.reducesTo_S65536_S_d0 (imageDist m c) j = 1#1 := by
  have both : ∀ a b : BitVec 1, a &&& b = 1#1 → a = 1#1 ∧ b = 1#1 := by decide
  rw [condition_eq] at h
  have split := fun j => both _ _ (congrFun h j)
  unfold textDist imageDist textCodes imageCodes
  simp only [V_main_arg0 m c, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c, V_main_arg16 m c, V_main_arg17 m c, V_main_arg18 m c, V_main_arg19 m c, V_main_arg20 m c]
  exact ⟨fun j => (split j).1, fun j => (split j).2⟩

/-- The two programs begin with the same arguments on the device. -/
def SameArguments : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

variable {m m' c}

theorem reference_c (h : SameArguments m m' c) : after_ (launchContents m' c) Cert.ReferenceIdeal.main_v0 = cAt m c := by
  obtain ⟨h0, h1, h2, h3, h4, h5, h6, h7, h8, h9, h10, h11, h12, h13, h14, h15, h16, h17, h18, h19, h20⟩ := h
  have e2 : before_ (launchContents m' c) Cert.ReferenceIdeal.main_arg2 = V m c main_arg2 := h2.trans (V_main_arg2 m c).symm
  rw [c_eq, Host.Reference.result_c, e2]

theorem reference_se (h : SameArguments m m' c) : after_ (launchContents m' c) Cert.ReferenceIdeal.main_v93 = seWhole m c := by
  obtain ⟨h0, h1, h2, h3, h4, h5, h6, h7, h8, h9, h10, h11, h12, h13, h14, h15, h16, h17, h18, h19, h20⟩ := h
  have e0 : before_ (launchContents m' c) Cert.ReferenceIdeal.main_arg0 = V m c main_arg0 := h0.trans (V_main_arg0 m c).symm
  have e3 : before_ (launchContents m' c) Cert.ReferenceIdeal.main_arg3 = V m c main_arg3 := h3.trans (V_main_arg3 m c).symm
  have e4 : before_ (launchContents m' c) Cert.ReferenceIdeal.main_arg4 = V m c main_arg4 := h4.trans (V_main_arg4 m c).symm
  have e5 : before_ (launchContents m' c) Cert.ReferenceIdeal.main_arg5 = V m c main_arg5 := h5.trans (V_main_arg5 m c).symm
  have e1 : before_ (launchContents m' c) Cert.ReferenceIdeal.main_arg1 = V m c main_arg1 := h1.trans (V_main_arg1 m c).symm
  have e12 : before_ (launchContents m' c) Cert.ReferenceIdeal.main_arg12 = V m c main_arg12 := h12.trans (V_main_arg12 m c).symm
  have e13 : before_ (launchContents m' c) Cert.ReferenceIdeal.main_arg13 = V m c main_arg13 := h13.trans (V_main_arg13 m c).symm
  have e14 : before_ (launchContents m' c) Cert.ReferenceIdeal.main_arg14 = V m c main_arg14 := h14.trans (V_main_arg14 m c).symm
  rw [se_eq, Host.Reference.result_se, e0, e3, e4, e5, e1, e12, e13, e14]

theorem reference_sc (h : SameArguments m m' c) (hp : Cert.Pre_one_greatest.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) = fun _ => 1#1) :
    after_ (launchContents m' c) Cert.ReferenceIdeal.main_v94 = wcWhole m c := by
  obtain ⟨ht, hi⟩ := bits m c hp
  obtain ⟨h0, h1, h2, h3, h4, h5, h6, h7, h8, h9, h10, h11, h12, h13, h14, h15, h16, h17, h18, h19, h20⟩ := h
  have e0 : before_ (launchContents m' c) Cert.ReferenceIdeal.main_arg0 = V m c main_arg0 := h0.trans (V_main_arg0 m c).symm
  have e1 : before_ (launchContents m' c) Cert.ReferenceIdeal.main_arg1 = V m c main_arg1 := h1.trans (V_main_arg1 m c).symm
  have e3 : before_ (launchContents m' c) Cert.ReferenceIdeal.main_arg3 = V m c main_arg3 := h3.trans (V_main_arg3 m c).symm
  have e4 : before_ (launchContents m' c) Cert.ReferenceIdeal.main_arg4 = V m c main_arg4 := h4.trans (V_main_arg4 m c).symm
  have e5 : before_ (launchContents m' c) Cert.ReferenceIdeal.main_arg5 = V m c main_arg5 := h5.trans (V_main_arg5 m c).symm
  have e6 : before_ (launchContents m' c) Cert.ReferenceIdeal.main_arg6 = V m c main_arg6 := h6.trans (V_main_arg6 m c).symm
  have e7 : before_ (launchContents m' c) Cert.ReferenceIdeal.main_arg7 = V m c main_arg7 := h7.trans (V_main_arg7 m c).symm
  have e8 : before_ (launchContents m' c) Cert.ReferenceIdeal.main_arg8 = V m c main_arg8 := h8.trans (V_main_arg8 m c).symm
  have e9 : before_ (launchContents m' c) Cert.ReferenceIdeal.main_arg9 = V m c main_arg9 := h9.trans (V_main_arg9 m c).symm
  have e10 : before_ (launchContents m' c) Cert.ReferenceIdeal.main_arg10 = V m c main_arg10 := h10.trans (V_main_arg10 m c).symm
  have e11 : before_ (launchContents m' c) Cert.ReferenceIdeal.main_arg11 = V m c main_arg11 := h11.trans (V_main_arg11 m c).symm
  have e12 : before_ (launchContents m' c) Cert.ReferenceIdeal.main_arg12 = V m c main_arg12 := h12.trans (V_main_arg12 m c).symm
  have e13 : before_ (launchContents m' c) Cert.ReferenceIdeal.main_arg13 = V m c main_arg13 := h13.trans (V_main_arg13 m c).symm
  have e14 : before_ (launchContents m' c) Cert.ReferenceIdeal.main_arg14 = V m c main_arg14 := h14.trans (V_main_arg14 m c).symm
  have e15 : before_ (launchContents m' c) Cert.ReferenceIdeal.main_arg15 = V m c main_arg15 := h15.trans (V_main_arg15 m c).symm
  have e16 : before_ (launchContents m' c) Cert.ReferenceIdeal.main_arg16 = V m c main_arg16 := h16.trans (V_main_arg16 m c).symm
  have e17 : before_ (launchContents m' c) Cert.ReferenceIdeal.main_arg17 = V m c main_arg17 := h17.trans (V_main_arg17 m c).symm
  have e18 : before_ (launchContents m' c) Cert.ReferenceIdeal.main_arg18 = V m c main_arg18 := h18.trans (V_main_arg18 m c).symm
  have e19 : before_ (launchContents m' c) Cert.ReferenceIdeal.main_arg19 = V m c main_arg19 := h19.trans (V_main_arg19 m c).symm
  have e20 : before_ (launchContents m' c) Cert.ReferenceIdeal.main_arg20 = V m c main_arg20 := h20.trans (V_main_arg20 m c).symm
  rw [sc_eq m c ht hi, Host.Reference.result_sc, e0, e1, e3, e4, e5, e6, e7, e8, e9, e10, e11, e12, e13, e14, e15, e16, e17, e18, e19, e20]

end Agree

end
-- ==== Proof.lean ====
/- The claims about the fused kernel and its reference: frames from `Words`, `Fused` and `Host`, equal results from `Agree`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Words.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_greatest
public import proofs.«01_k».proof.Proof.Together
public import Idealize.ShloMosaic.Adequacy
public import Idealize.ShloMosaic.Init

@[expose] public section

noncomputable section

namespace Cert.Proof

open Idealize.ShloMosaic Idealize.SL.Sem Cert.Kernel

/-- From equal arguments of which the precondition holds, both programs end with the same three arrays, their arguments as they were. -/
theorem algebraic : algebraic_KernelIdeal_ReferenceIdeal (hKernelIdeal := Cert.KernelIdeal.Gen.facts)
    (hReferenceIdeal := Cert.ReferenceIdeal.Gen.facts) (hPre_one_greatest := Cert.Pre_one_greatest.Gen.facts) := by
  intro m g m' g' hpre hsame
  refine ⟨Fused.cAt m, Fused.seWhole m, Fused.wcWhole m, ?_, ?_⟩
  · exact (θ_run _ _ _).mono (fun r h c => ⟨(h.1 c).1, (h.1 c).2.1, (h.1 c).2.2, h.2 c⟩)
      (θ_run_and (Fused.run_named m g) (Fused.unchanged m g))
  · exact (θ_run _ _ _).mono
      (fun r h c => ⟨(h.1 c _).trans (Agree.reference_c (hsame c)), (h.1 c _).trans (Agree.reference_se (hsame c)),
        (h.1 c _).trans (Agree.reference_sc (hsame c) (hpre c)), h.2 c⟩)
      (θ_run_and (Host.Reference.run m' g') (Host.Reference.unchanged m' g'))

theorem claim : Cert.Claim := ⟨Cert.Kernel.Gen.facts, Cert.KernelIdeal.Gen.facts, Cert.ReferenceIdeal.Gen.facts, Cert.Pre_one_greatest.Gen.facts,
  fun m g _ => Words.frame m g, fun m g _ => Words.frame m g, fun m g _ => Fused.frame m g,
  fun m g _ => Host.Reference.frame m g, fun m g _ => Host.Reference.frame m g, trivial, algebraic⟩

end Cert.Proof

end
